-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v167_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v28)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v28) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v143) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v7_0)) (v1 : (c : Dev Cert.OutKernelIdeal.nD) → Buf (Elt Ideal) ((c.tc : Thread Cert.OutKernelIdeal.nD Cert.OutKernelIdeal.τ).loc Cert.OutKernelIdeal.main_v7_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v7_0) = v0 c
          ∧ r.2.mem ((c.tc : Thread Cert.OutKernelIdeal.nD Cert.OutKernelIdeal.τ).loc Cert.OutKernelIdeal.main_v7_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v23) = v0 c
          ∧ r.2.mem ((c.tc : Thread Cert.OutReferenceIdeal.nD Cert.OutReferenceIdeal.τ).loc Cert.OutReferenceIdeal.main_v24) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts),
    quiescent_Kernel (hKernel := hKernel)
    ∧ quiescent_KernelIdeal (hKernelIdeal := hKernelIdeal)
    ∧ quiescent_ReferenceIdeal (hReferenceIdeal := hReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ preserves_Kernel_KernelIdeal
    ∧ algebraic_KernelIdeal_ReferenceIdeal (hKernelIdeal := hKernelIdeal) (hReferenceIdeal := hReferenceIdeal)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
-- ==== Kernel.lean ====
abbrev S7x16384x1024 : Shape := ⟨3, ![7, 16384, 1024]⟩
abbrev S8x257 : Shape := ⟨2, ![8, 257]⟩
abbrev S1024 : Shape := ⟨1, ![1024]⟩
abbrev S8 : Shape := ⟨1, ![8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S1x8x1x64x1x64 : Shape := ⟨6, ![1, 8, 1, 64, 1, 64]⟩
abbrev S1x8x4x64x4x64 : Shape := ⟨6, ![1, 8, 4, 64, 4, 64]⟩
abbrev S8x256x256 : Shape := ⟨3, ![8, 256, 256]⟩
abbrev S8x1 : Shape := ⟨2, ![8, 1]⟩
abbrev S8x64 : Shape := ⟨2, ![8, 64]⟩
abbrev S1x8x1x64 : Shape := ⟨4, ![1, 8, 1, 64]⟩
abbrev S1x8x4x64 : Shape := ⟨4, ![1, 8, 4, 64]⟩
abbrev S8x256 : Shape := ⟨2, ![8, 256]⟩
abbrev S8x256x1 : Shape := ⟨3, ![8, 256, 1]⟩
abbrev S8x256x128 : Shape := ⟨3, ![8, 256, 128]⟩
abbrev S8x1x128 : Shape := ⟨3, ![8, 1, 128]⟩
abbrev S768 : Shape := ⟨1, ![768]⟩
abbrev S1x768 : Shape := ⟨2, ![1, 768]⟩
abbrev S8x1x1024 : Shape := ⟨3, ![8, 1, 1024]⟩
abbrev S8x1024 : Shape := ⟨2, ![8, 1024]⟩
abbrev S8x2305 : Shape := ⟨2, ![8, 2305]⟩
abbrev S8x768 : Shape := ⟨2, ![8, 768]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S256x768 : Shape := ⟨2, ![256, 768]⟩
abbrev S1x256x768 : Shape := ⟨3, ![1, 256, 768]⟩
abbrev S1x8x256x768 : Shape := ⟨4, ![1, 8, 256, 768]⟩
abbrev S3x8x256x768 : Shape := ⟨4, ![3, 8, 256, 768]⟩
abbrev S1x1024 : Shape := ⟨2, ![1, 1024]⟩
abbrev S7x8x2048x1024 : Shape := ⟨4, ![7, 8, 2048, 1024]⟩
abbrev S8x2048x1024 : Shape := ⟨3, ![8, 2048, 1024]⟩
abbrev S1x1x256x1024 : Shape := ⟨4, ![1, 1, 256, 1024]⟩
abbrev S1x1x2048x1024 : Shape := ⟨4, ![1, 1, 2048, 1024]⟩
abbrev S1x1x2048x128 : Shape := ⟨4, ![1, 1, 2048, 128]⟩
abbrev S1x256x128 : Shape := ⟨3, ![1, 256, 128]⟩
abbrev S1x1x128 : Shape := ⟨3, ![1, 1, 128]⟩
abbrev S1x128 : Shape := ⟨2, ![1, 128]⟩
abbrev S1x256x1024 : Shape := ⟨3, ![1, 256, 1024]⟩
abbrev S1x2048x128 : Shape := ⟨3, ![1, 2048, 128]⟩
abbrev S32x128x128 : Shape := ⟨3, ![32, 128, 128]⟩
abbrev S1x1x256x128 : Shape := ⟨4, ![1, 1, 256, 128]⟩
abbrev S256x128 : Shape := ⟨2, ![256, 128]⟩
abbrev S64x128 : Shape := ⟨2, ![64, 128]⟩
abbrev S128x128 : Shape := ⟨2, ![128, 128]⟩
abbrev S1x128x128 : Shape := ⟨3, ![1, 128, 128]⟩
abbrev S1x1x768x128 : Shape := ⟨4, ![1, 1, 768, 128]⟩
abbrev S768x128 : Shape := ⟨2, ![768, 128]⟩
abbrev S1x1x256x768 : Shape := ⟨4, ![1, 1, 256, 768]⟩
abbrev S1x1x64x128 : Shape := ⟨4, ![1, 1, 64, 128]⟩
abbrev S1x64x128 : Shape := ⟨3, ![1, 64, 128]⟩

abbrev nBuf : Space → Nat
  | .hbm => 277
  | .vmem => 33
  | .smem => 0
  | _ => 0

abbrev hbmTy0_0 (i : Nat) : BufTy := match i % 128 with
  | 0 => ⟨S7x16384x1024, .bf16⟩
  | 1 => ⟨S8x257, .f32⟩
  | 2 => ⟨S1024, .f32⟩
  | 3 => ⟨S1024, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S8, .f32⟩
  | 13 => ⟨S64, .f32⟩
  | 14 => ⟨S64x1, .f32⟩
  | 15 => ⟨S1x64, .f32⟩
  | 16 => ⟨S64x64, .f32⟩
  | 17 => ⟨S64x64, .f32⟩
  | 18 => ⟨S64x64, .f32⟩
  | 19 => ⟨S_, .f32⟩
  | 20 => ⟨S64x64, .f32⟩
  | 21 => ⟨S64x64, .i1⟩
  | 22 => ⟨S_, .f32⟩
  | 23 => ⟨S64x64, .f32⟩
  | 24 => ⟨S64x64, .f32⟩
  | 25 => ⟨S8x1x1, .f32⟩
  | 26 => ⟨S1x64x64, .f32⟩
  | 27 => ⟨S8x64x64, .f32⟩
  | 28 => ⟨S8x64x64, .f32⟩
  | 29 => ⟨S8x64x64, .f32⟩
  | 30 => ⟨S8x64x64, .f32⟩
  | 31 => ⟨S_, .f32⟩
  | 32 => ⟨S_, .f32⟩
  | 33 => ⟨S8x64x64, .i1⟩
  | 34 => ⟨S8x64x64, .f32⟩
  | 35 => ⟨S8x64x64, .f32⟩
  | 36 => ⟨S256, .i32⟩
  | 37 => ⟨S256x1, .i32⟩
  | 38 => ⟨S_, .i32⟩
  | 39 => ⟨S_, .i32⟩
  | 40 => ⟨S256x1, .i32⟩
  | 41 => ⟨S256x1, .i32⟩
  | 42 => ⟨S256x1, .i32⟩
  | 43 => ⟨S_, .i32⟩
  | 44 => ⟨S256x1, .i32⟩
  | 45 => ⟨S256x1, .i1⟩
  | 46 => ⟨S256x1, .i32⟩
  | 47 => ⟨S256x1, .i32⟩
  | 48 => ⟨S_, .i32⟩
  | 49 => ⟨S256x1, .i32⟩
  | 50 => ⟨S256x1, .i1⟩
  | 51 => ⟨S256x1, .i1⟩
  | 52 => ⟨S_, .i32⟩
  | 53 => ⟨S256x1, .i32⟩
  | 54 => ⟨S256x1, .i32⟩
  | 55 => ⟨S256x1, .i32⟩
  | 56 => ⟨S256, .i32⟩
  | 57 => ⟨S1x256, .i32⟩
  | 58 => ⟨S_, .i32⟩
  | 59 => ⟨S_, .i32⟩
  | 60 => ⟨S1x256, .i32⟩
  | 61 => ⟨S1x256, .i32⟩
  | 62 => ⟨S1x256, .i32⟩
  | 63 => ⟨S_, .i32⟩
  | 64 => ⟨S1x256, .i32⟩
  | 65 => ⟨S1x256, .i1⟩
  | 66 => ⟨S1x256, .i32⟩
  | 67 => ⟨S1x256, .i32⟩
  | 68 => ⟨S_, .i32⟩
  | 69 => ⟨S1x256, .i32⟩
  | 70 => ⟨S1x256, .i1⟩
  | 71 => ⟨S1x256, .i1⟩
  | 72 => ⟨S_, .i32⟩
  | 73 => ⟨S1x256, .i32⟩
  | 74 => ⟨S1x256, .i32⟩
  | 75 => ⟨S1x256, .i32⟩
  | 76 => ⟨S256x256, .i32⟩
  | 77 => ⟨S256x256, .i32⟩
  | 78 => ⟨S256x256, .i1⟩
  | 79 => ⟨S1x256x256, .i1⟩
  | 80 => ⟨S1x8x1x64x1x64, .f32⟩
  | 81 => ⟨S1x8x4x64x4x64, .f32⟩
  | 82 => ⟨S8x256x256, .f32⟩
  | 83 => ⟨S_, .f32⟩
  | 84 => ⟨S_, .f32⟩
  | 85 => ⟨S8x256x256, .i1⟩
  | 86 => ⟨S8x256x256, .f32⟩
  | 87 => ⟨S8x256x256, .f32⟩
  | 88 => ⟨S_, .f32⟩
  | 89 => ⟨S64, .f32⟩
  | 90 => ⟨S64, .f32⟩
  | 91 => ⟨S1x64, .f32⟩
  | 92 => ⟨S8x1, .f32⟩
  | 93 => ⟨S8x64, .f32⟩
  | 94 => ⟨S8x64, .f32⟩
  | 95 => ⟨S8x64, .f32⟩
  | 96 => ⟨S8x64, .f32⟩
  | 97 => ⟨S_, .f32⟩
  | 98 => ⟨S64, .f32⟩
  | 99 => ⟨S64, .f32⟩
  | 100 => ⟨S1x64, .f32⟩
  | 101 => ⟨S8x1, .f32⟩
  | 102 => ⟨S8x64, .f32⟩
  | 103 => ⟨S8x64, .f32⟩
  | 104 => ⟨S8x64, .f32⟩
  | 105 => ⟨S8x64, .f32⟩
  | 106 => ⟨S1x8x1x64, .f32⟩
  | 107 => ⟨S1x8x4x64, .f32⟩
  | 108 => ⟨S8x256, .f32⟩
  | 109 => ⟨S8x256x1, .f32⟩
  | 110 => ⟨S8x256x128, .f32⟩
  | 111 => ⟨S1x8x1x64, .f32⟩
  | 112 => ⟨S1x8x4x64, .f32⟩
  | 113 => ⟨S8x256, .f32⟩
  | 114 => ⟨S8x256x1, .f32⟩
  | 115 => ⟨S8x256x128, .f32⟩
  | 116 => ⟨S_, .f32⟩
  | 117 => ⟨S8, .f32⟩
  | 118 => ⟨S8, .f32⟩
  | 119 => ⟨S8, .f32⟩
  | 120 => ⟨S8x1x1, .f32⟩
  | 121 => ⟨S8x1x128, .f32⟩
  | 122 => ⟨S256, .i32⟩
  | 123 => ⟨S256x1, .i32⟩
  | 124 => ⟨S768, .i32⟩
  | 125 => ⟨S1x768, .i32⟩
  | 126 => ⟨S_, .i32⟩
  | 127 => ⟨S_, .i32⟩
  | _ => ⟨S7x16384x1024, .bf16⟩

abbrev hbmTy0_1 (i : Nat) : BufTy := match i % 128 with
  | 0 => ⟨S256x1, .i32⟩
  | 1 => ⟨S256x1, .i32⟩
  | 2 => ⟨S256x1, .i32⟩
  | 3 => ⟨S_, .i32⟩
  | 4 => ⟨S256x1, .i32⟩
  | 5 => ⟨S256x1, .i1⟩
  | 6 => ⟨S256x1, .i32⟩
  | 7 => ⟨S256x1, .i32⟩
  | 8 => ⟨S_, .i32⟩
  | 9 => ⟨S256x1, .i32⟩
  | 10 => ⟨S256x1, .i1⟩
  | 11 => ⟨S256x1, .i1⟩
  | 12 => ⟨S_, .i32⟩
  | 13 => ⟨S256x1, .i32⟩
  | 14 => ⟨S256x1, .i32⟩
  | 15 => ⟨S256x1, .i32⟩
  | 16 => ⟨S_, .i32⟩
  | 17 => ⟨S_, .i32⟩
  | 18 => ⟨S1x768, .i32⟩
  | 19 => ⟨S1x768, .i32⟩
  | 20 => ⟨S1x768, .i32⟩
  | 21 => ⟨S_, .i32⟩
  | 22 => ⟨S1x768, .i32⟩
  | 23 => ⟨S1x768, .i1⟩
  | 24 => ⟨S1x768, .i32⟩
  | 25 => ⟨S1x768, .i32⟩
  | 26 => ⟨S_, .i32⟩
  | 27 => ⟨S1x768, .i32⟩
  | 28 => ⟨S1x768, .i1⟩
  | 29 => ⟨S1x768, .i1⟩
  | 30 => ⟨S_, .i32⟩
  | 31 => ⟨S1x768, .i32⟩
  | 32 => ⟨S1x768, .i32⟩
  | 33 => ⟨S1x768, .i32⟩
  | 34 => ⟨S8x1, .f32⟩
  | 35 => ⟨S8x1x1024, .f32⟩
  | 36 => ⟨S8x1024, .f32⟩
  | 37 => ⟨S8x1, .f32⟩
  | 38 => ⟨S8x1x1024, .f32⟩
  | 39 => ⟨S8x1024, .f32⟩
  | 40 => ⟨S8x2305, .f32⟩
  | 41 => ⟨S8x768, .f32⟩
  | 42 => ⟨S8x768, .f32⟩
  | 43 => ⟨S8x256, .f32⟩
  | 44 => ⟨S8x256, .f32⟩
  | 45 => ⟨S8x1024, .f32⟩
  | 46 => ⟨S1x8x1x1024, .f32⟩
  | 47 => ⟨S1x8x256x1024, .f32⟩
  | 48 => ⟨S8x262144, .f32⟩
  | 49 => ⟨S8x261888, .f32⟩
  | 50 => ⟨S8x256x1023, .f32⟩
  | 51 => ⟨S8x256x768, .f32⟩
  | 52 => ⟨S_, .i32⟩
  | 53 => ⟨S256x1, .i32⟩
  | 54 => ⟨S256x1, .i32⟩
  | 55 => ⟨S_, .i32⟩
  | 56 => ⟨S256x1, .i32⟩
  | 57 => ⟨S256x1, .i32⟩
  | 58 => ⟨S256x768, .i32⟩
  | 59 => ⟨S256x768, .i32⟩
  | 60 => ⟨S256x768, .i1⟩
  | 61 => ⟨S_, .i32⟩
  | 62 => ⟨S256x1, .i32⟩
  | 63 => ⟨S256x1, .i32⟩
  | 64 => ⟨S256x768, .i32⟩
  | 65 => ⟨S256x768, .i32⟩
  | 66 => ⟨S256x768, .i1⟩
  | 67 => ⟨S256x768, .i1⟩
  | 68 => ⟨S1x256x768, .i1⟩
  | 69 => ⟨S_, .f32⟩
  | 70 => ⟨S_, .f32⟩
  | 71 => ⟨S8x256x768, .i1⟩
  | 72 => ⟨S8x256x768, .f32⟩
  | 73 => ⟨S8x256x768, .f32⟩
  | 74 => ⟨S8x768, .f32⟩
  | 75 => ⟨S8x768, .f32⟩
  | 76 => ⟨S8x256, .f32⟩
  | 77 => ⟨S8x256, .f32⟩
  | 78 => ⟨S8x1024, .f32⟩
  | 79 => ⟨S1x8x1x1024, .f32⟩
  | 80 => ⟨S1x8x256x1024, .f32⟩
  | 81 => ⟨S8x262144, .f32⟩
  | 82 => ⟨S8x261888, .f32⟩
  | 83 => ⟨S8x256x1023, .f32⟩
  | 84 => ⟨S8x256x768, .f32⟩
  | 85 => ⟨S_, .i32⟩
  | 86 => ⟨S256x1, .i32⟩
  | 87 => ⟨S256x1, .i32⟩
  | 88 => ⟨S_, .i32⟩
  | 89 => ⟨S256x1, .i32⟩
  | 90 => ⟨S256x1, .i32⟩
  | 91 => ⟨S256x768, .i32⟩
  | 92 => ⟨S256x768, .i32⟩
  | 93 => ⟨S256x768, .i1⟩
  | 94 => ⟨S_, .i32⟩
  | 95 => ⟨S256x1, .i32⟩
  | 96 => ⟨S256x1, .i32⟩
  | 97 => ⟨S256x768, .i32⟩
  | 98 => ⟨S256x768, .i32⟩
  | 99 => ⟨S256x768, .i1⟩
  | 100 => ⟨S256x768, .i1⟩
  | 101 => ⟨S1x256x768, .i1⟩
  | 102 => ⟨S_, .f32⟩
  | 103 => ⟨S_, .f32⟩
  | 104 => ⟨S8x256x768, .i1⟩
  | 105 => ⟨S8x256x768, .f32⟩
  | 106 => ⟨S8x256x768, .f32⟩
  | 107 => ⟨S8x768, .f32⟩
  | 108 => ⟨S8x768, .f32⟩
  | 109 => ⟨S8x256, .f32⟩
  | 110 => ⟨S8x256, .f32⟩
  | 111 => ⟨S8x1024, .f32⟩
  | 112 => ⟨S1x8x1x1024, .f32⟩
  | 113 => ⟨S1x8x256x1024, .f32⟩
  | 114 => ⟨S8x262144, .f32⟩
  | 115 => ⟨S8x261888, .f32⟩
  | 116 => ⟨S8x256x1023, .f32⟩
  | 117 => ⟨S8x256x768, .f32⟩
  | 118 => ⟨S_, .i32⟩
  | 119 => ⟨S256x1, .i32⟩
  | 120 => ⟨S256x1, .i32⟩
  | 121 => ⟨S_, .i32⟩
  | 122 => ⟨S256x1, .i32⟩
  | 123 => ⟨S256x1, .i32⟩
  | 124 => ⟨S256x768, .i32⟩
  | 125 => ⟨S256x768, .i32⟩
  | 126 => ⟨S256x768, .i1⟩
  | 127 => ⟨S_, .i32⟩
  | _ => ⟨S7x16384x1024, .bf16⟩

abbrev hbmTy0_2 (i : Nat) : BufTy := match i % 128 with
  | 0 => ⟨S256x1, .i32⟩
  | 1 => ⟨S256x1, .i32⟩
  | 2 => ⟨S256x768, .i32⟩
  | 3 => ⟨S256x768, .i32⟩
  | 4 => ⟨S256x768, .i1⟩
  | 5 => ⟨S256x768, .i1⟩
  | 6 => ⟨S1x256x768, .i1⟩
  | 7 => ⟨S_, .f32⟩
  | 8 => ⟨S_, .f32⟩
  | 9 => ⟨S8x256x768, .i1⟩
  | 10 => ⟨S8x256x768, .f32⟩
  | 11 => ⟨S8x256x768, .f32⟩
  | 12 => ⟨S1x8x256x768, .f32⟩
  | 13 => ⟨S1x8x256x768, .f32⟩
  | 14 => ⟨S1x8x256x768, .f32⟩
  | 15 => ⟨S3x8x256x768, .f32⟩
  | 16 => ⟨S1x1024, .f32⟩
  | 17 => ⟨S1x1024, .f32⟩
  | 18 => ⟨S7x8x2048x1024, .bf16⟩
  | 19 => ⟨S8x2048x1024, .bf16⟩
  | 20 => ⟨S8x2048x1024, .bf16⟩
  | _ => ⟨S7x16384x1024, .bf16⟩

abbrev hbmTy (i : Nat) : BufTy := match i / 128 with
  | 0 => hbmTy0_0 i
  | 1 => hbmTy0_1 i
  | 2 => hbmTy0_2 i
  | _ => ⟨S7x16384x1024, .bf16⟩

abbrev bufTy : (tb : Table) → Fin (tcTables nBuf tb) → BufTy
  | .hbm, ⟨i, _⟩ => hbmTy i
  | .local _ .vmem, ⟨0, _⟩ => ⟨S1x1x256x1024, .bf16⟩
  | .local _ .vmem, ⟨1, _⟩ => ⟨S1x1x256x1024, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x1x2048x1024, .bf16⟩
  | .local _ .vmem, ⟨5, _⟩ => ⟨S1x1x2048x1024, .bf16⟩
  | .local _ .vmem, ⟨6, _⟩ => ⟨S1x8x256x768, .f32⟩
  | .local _ .vmem, ⟨7, _⟩ => ⟨S1x8x256x768, .f32⟩
  | .local _ .vmem, ⟨8, _⟩ => ⟨S1x1024, .f32⟩
  | .local _ .vmem, ⟨9, _⟩ => ⟨S1x1x2048x128, .bf16⟩
  | .local _ .vmem, ⟨10, _⟩ => ⟨S1x1x2048x128, .bf16⟩
  | .local _ .vmem, ⟨11, _⟩ => ⟨S1x1x2048x128, .bf16⟩
  | .local _ .vmem, ⟨12, _⟩ => ⟨S1x1x2048x128, .bf16⟩
  | .local _ .vmem, ⟨13, _⟩ => ⟨S1x1x2048x128, .bf16⟩
  | .local _ .vmem, ⟨14, _⟩ => ⟨S1x1x2048x128, .bf16⟩
  | .local _ .vmem, ⟨15, _⟩ => ⟨S1x1x2048x128, .bf16⟩
  | .local _ .vmem, ⟨16, _⟩ => ⟨S1x1x2048x128, .bf16⟩
  | .local _ .vmem, ⟨17, _⟩ => ⟨S1x256x256, .f32⟩
  | .local _ .vmem, ⟨18, _⟩ => ⟨S1x256x256, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x1x128, .f32⟩
  | .local _ .vmem, ⟨24, _⟩ => ⟨S1x1x128, .f32⟩
  | .local _ .vmem, ⟨25, _⟩ => ⟨S1x128, .f32⟩
  | .local _ .vmem, ⟨26, _⟩ => ⟨S1x128, .f32⟩
  | .local _ .vmem, ⟨27, _⟩ => ⟨S1x256x1024, .bf16⟩
  | .local _ .vmem, ⟨28, _⟩ => ⟨S1x256x1024, .bf16⟩
  | .local _ .vmem, ⟨29, _⟩ => ⟨S1x2048x128, .bf16⟩
  | .local _ .vmem, ⟨30, _⟩ => ⟨S1x2048x128, .bf16⟩
  | .local _ .vmem, ⟨31, _⟩ => ⟨S32x128x128, .f32⟩
  | .local _ .vmem, ⟨32, _⟩ => ⟨S32x128x128, .bf16⟩
  | _, _ => ⟨S7x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_4 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_c : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_0 : Ref sig .tc := ⟨.hbm, 72, rfl⟩
abbrev main_call2_v12 : Ref sig .tc := ⟨.hbm, 73, rfl⟩
abbrev main_call2_v13 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_5 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v37 : Ref sig .tc := ⟨.hbm, 87, rfl⟩
abbrev main_cst_6 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_7 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_8 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_c_9 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_c : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_c_0 : Ref sig .tc := ⟨.hbm, 140, rfl⟩
abbrev main_call4_v12 : Ref sig .tc := ⟨.hbm, 141, rfl⟩
abbrev main_call4_v13 : Ref sig .tc := ⟨.hbm, 142, rfl⟩
abbrev main_v73 : Ref sig .tc := ⟨.hbm, 143, rfl⟩
abbrev main_c_10 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_v5 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_c : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_0 : Ref sig .tc := ⟨.hbm, 158, rfl⟩
abbrev main_call5_v12 : Ref sig .tc := ⟨.hbm, 159, rfl⟩
abbrev main_call5_v13 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_c_11 : Ref sig .tc := ⟨.hbm, 180, rfl⟩
abbrev main_v93 : Ref sig .tc := ⟨.hbm, 181, rfl⟩
abbrev main_v94 : Ref sig .tc := ⟨.hbm, 182, rfl⟩
abbrev main_c_12 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_c_13 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_cst_14 : Ref sig .tc := ⟨.hbm, 197, rfl⟩
abbrev main_call8_v0 : Ref sig .tc := ⟨.hbm, 198, rfl⟩
abbrev main_call8_v1 : Ref sig .tc := ⟨.hbm, 199, rfl⟩
abbrev main_call8_v2 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_c_15 : Ref sig .tc := ⟨.hbm, 213, rfl⟩
abbrev main_v119 : Ref sig .tc := ⟨.hbm, 214, rfl⟩
abbrev main_v120 : Ref sig .tc := ⟨.hbm, 215, rfl⟩
abbrev main_c_16 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_c_17 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_cst_18 : Ref sig .tc := ⟨.hbm, 230, rfl⟩
abbrev main_call11_v0 : Ref sig .tc := ⟨.hbm, 231, rfl⟩
abbrev main_call11_v1 : Ref sig .tc := ⟨.hbm, 232, rfl⟩
abbrev main_call11_v2 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_c_19 : Ref sig .tc := ⟨.hbm, 246, rfl⟩
abbrev main_v145 : Ref sig .tc := ⟨.hbm, 247, rfl⟩
abbrev main_v146 : Ref sig .tc := ⟨.hbm, 248, rfl⟩
abbrev main_c_20 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_c_21 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_cst_22 : Ref sig .tc := ⟨.hbm, 263, rfl⟩
abbrev main_call14_v0 : Ref sig .tc := ⟨.hbm, 264, rfl⟩
abbrev main_call14_v1 : Ref sig .tc := ⟨.hbm, 265, rfl⟩
abbrev main_call14_v2 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167_0 : Ref sig .tc := ⟨.hbm, 275, rfl⟩
abbrev main_v167_1 : Ref sig .tc := ⟨.hbm, 276, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  let c256_i32 : BitVec 32 := 256#32
  let v0 : BitVec 32 := Scalar.muli c0_i32 c256_i32
  v0
def k0_off1 (c0_i32 : BitVec 32) : Fin 4 → Nat :=
  let c0 : Index := 0#32
  let c0_0 : Index := 0#32
  let c256_i32 : BitVec 32 := 256#32
  let v0 : BitVec 32 := Scalar.muli c0_i32 c256_i32
  let v1 : BitVec 32 := v0
  let v2 : Index := Scalar.indexCast v1
  let c0_1 : Index := 0#32
  ![0, 0, v2.toNat, 0]
def k0_off2 (c0_i32 : BitVec 32) (c0_i32_9 : BitVec 32) : Fin 3 → Nat :=
  let c4_i32 : BitVec 32 := 4#32
  let v18 : BitVec 32 := Scalar.muli c0_i32 c4_i32
  let v19 : BitVec 32 := Scalar.addi v18 c0_i32_9
  let v20 : Index := Scalar.indexCast v19
  let c0_10 : Index := 0#32
  let c0_11 : Index := 0#32
  ![v20.toNat, 0, 0]
def k0_mult2 : BitVec 32 :=
  let c1_i32_24 : BitVec 32 := 1#32
  let c256_i32_25 : BitVec 32 := 256#32
  let v51 : BitVec 32 := Scalar.muli c1_i32_24 c256_i32_25
  v51
def k0_mult3 : BitVec 32 :=
  let c2_i32_56 : BitVec 32 := 2#32
  let c256_i32_57 : BitVec 32 := 256#32
  let v102 : BitVec 32 := Scalar.muli c2_i32_56 c256_i32_57
  v102
def k0_mult4 : BitVec 32 :=
  let c3_i32_88 : BitVec 32 := 3#32
  let c256_i32_89 : BitVec 32 := 256#32
  let v153 : BitVec 32 := Scalar.muli c3_i32_88 c256_i32_89
  v153
def k0_mult5 : BitVec 32 :=
  let c4_i32_120 : BitVec 32 := 4#32
  let c256_i32_121 : BitVec 32 := 256#32
  let v204 : BitVec 32 := Scalar.muli c4_i32_120 c256_i32_121
  v204
def k0_mult6 : BitVec 32 :=
  let c5_i32 : BitVec 32 := 5#32
  let c256_i32_152 : BitVec 32 := 256#32
  let v255 : BitVec 32 := Scalar.muli c5_i32 c256_i32_152
  v255
def k0_mult7 : BitVec 32 :=
  let c6_i32 : BitVec 32 := 6#32
  let c256_i32_183 : BitVec 32 := 256#32
  let v306 : BitVec 32 := Scalar.muli c6_i32 c256_i32_183
  v306
def k0_mult8 : BitVec 32 :=
  let c7_i32 : BitVec 32 := 7#32
  let c256_i32_214 : BitVec 32 := 256#32
  let v357 : BitVec 32 := Scalar.muli c7_i32 c256_i32_214
  v357
def k0_mult9 (i : grid0.Coords) : BitVec 32 :=
  let arg1 : BitVec 32 := BitVec.ofNat 32 (i 1).val
  let c256_i32_479 : BitVec 32 := 256#32
  let v825 : BitVec 32 := Scalar.muli arg1 c256_i32_479
  let c512_i32 : BitVec 32 := 512#32
  let v826 : BitVec 32 := Scalar.subi v825 c512_i32
  let c0_i32_480 : BitVec 32 := 0#32
  let v827 : BitVec 32 := Scalar.maxsi v826 c0_i32_480
  v827
def k0_off3 (i : grid0.Coords) : Fin 4 → Nat :=
  let c0_481 : Index := 0#32
  let c0_482 : Index := 0#32
  let arg1 : BitVec 32 := BitVec.ofNat 32 (i 1).val
  let c256_i32_479 : BitVec 32 := 256#32
  let v825 : BitVec 32 := Scalar.muli arg1 c256_i32_479
  let c512_i32 : BitVec 32 := 512#32
  let v826 : BitVec 32 := Scalar.subi v825 c512_i32
  let c0_i32_480 : BitVec 32 := 0#32
  let v827 : BitVec 32 := Scalar.maxsi v826 c0_i32_480
  let v828 : BitVec 32 := v827
  let v829 : Index := Scalar.indexCast v828
  let c0_483 : Index := 0#32
  ![0, 0, v829.toNat, 0]
def k0_off4 (i : grid0.Coords) : Fin 4 → Nat :=
  let c0_508 : Index := 0#32
  let c0_509 : Index := 0#32
  let arg1 : BitVec 32 := BitVec.ofNat 32 (i 1).val
  let c256_i32_479 : BitVec 32 := 256#32
  let v825 : BitVec 32 := Scalar.muli arg1 c256_i32_479
  let c512_i32 : BitVec 32 := 512#32
  let v826 : BitVec 32 := Scalar.subi v825 c512_i32
  let c0_i32_480 : BitVec 32 := 0#32
  let v827 : BitVec 32 := Scalar.maxsi v826 c0_i32_480
  let v828 : BitVec 32 := v827
  let v872 : Index := Scalar.indexCast v828
  let c128 : Index := 128#32
  ![0, 0, v872.toNat, 128]
def k0_off5 (i : grid0.Coords) : Fin 4 → Nat :=
  let c0_533 : Index := 0#32
  let c0_534 : Index := 0#32
  let arg1 : BitVec 32 := BitVec.ofNat 32 (i 1).val
  let c256_i32_479 : BitVec 32 := 256#32
  let v825 : BitVec 32 := Scalar.muli arg1 c256_i32_479
  let c512_i32 : BitVec 32 := 512#32
  let v826 : BitVec 32 := Scalar.subi v825 c512_i32
  let c0_i32_480 : BitVec 32 := 0#32
  let v827 : BitVec 32 := Scalar.maxsi v826 c0_i32_480
  let v828 : BitVec 32 := v827
  let v915 : Index := Scalar.indexCast v828
  let c256 : Index := 256#32
  ![0, 0, v915.toNat, 256]
def k0_off6 (i : grid0.Coords) : Fin 4 → Nat :=
  let c0_558 : Index := 0#32
  let c0_559 : Index := 0#32
  let arg1 : BitVec 32 := BitVec.ofNat 32 (i 1).val
  let c256_i32_479 : BitVec 32 := 256#32
  let v825 : BitVec 32 := Scalar.muli arg1 c256_i32_479
  let c512_i32 : BitVec 32 := 512#32
  let v826 : BitVec 32 := Scalar.subi v825 c512_i32
  let c0_i32_480 : BitVec 32 := 0#32
  let v827 : BitVec 32 := Scalar.maxsi v826 c0_i32_480
  let v828 : BitVec 32 := v827
  let v958 : Index := Scalar.indexCast v828
  let c384 : Index := 384#32
  ![0, 0, v958.toNat, 384]
def k0_off7 (i : grid0.Coords) : Fin 4 → Nat :=
  let c0_583 : Index := 0#32
  let c0_584 : Index := 0#32
  let arg1 : BitVec 32 := BitVec.ofNat 32 (i 1).val
  let c256_i32_479 : BitVec 32 := 256#32
  let v825 : BitVec 32 := Scalar.muli arg1 c256_i32_479
  let c512_i32 : BitVec 32 := 512#32
  let v826 : BitVec 32 := Scalar.subi v825 c512_i32
  let c0_i32_480 : BitVec 32 := 0#32
  let v827 : BitVec 32 := Scalar.maxsi v826 c0_i32_480
  let v828 : BitVec 32 := v827
  let v1001 : Index := Scalar.indexCast v828
  let c512 : Index := 512#32
  ![0, 0, v1001.toNat, 512]
def k0_off8 (i : grid0.Coords) : Fin 4 → Nat :=
  let c0_608 : Index := 0#32
  let c0_609 : Index := 0#32
  let arg1 : BitVec 32 := BitVec.ofNat 32 (i 1).val
  let c256_i32_479 : BitVec 32 := 256#32
  let v825 : BitVec 32 := Scalar.muli arg1 c256_i32_479
  let c512_i32 : BitVec 32 := 512#32
  let v826 : BitVec 32 := Scalar.subi v825 c512_i32
  let c0_i32_480 : BitVec 32 := 0#32
  let v827 : BitVec 32 := Scalar.maxsi v826 c0_i32_480
  let v828 : BitVec 32 := v827
  let v1044 : Index := Scalar.indexCast v828
  let c640 : Index := 640#32
  ![0, 0, v1044.toNat, 640]
def k0_off9 (i : grid0.Coords) : Fin 4 → Nat :=
  let c0_633 : Index := 0#32
  let c0_634 : Index := 0#32
  let arg1 : BitVec 32 := BitVec.ofNat 32 (i 1).val
  let c256_i32_479 : BitVec 32 := 256#32
  let v825 : BitVec 32 := Scalar.muli arg1 c256_i32_479
  let c512_i32 : BitVec 32 := 512#32
  let v826 : BitVec 32 := Scalar.subi v825 c512_i32
  let c0_i32_480 : BitVec 32 := 0#32
  let v827 : BitVec 32 := Scalar.maxsi v826 c0_i32_480
  let v828 : BitVec 32 := v827
  let v1087 : Index := Scalar.indexCast v828
  let c768 : Index := 768#32
  ![0, 0, v1087.toNat, 768]
def k0_off10 (i : grid0.Coords) : Fin 4 → Nat :=
  let c0_658 : Index := 0#32
  let c0_659 : Index := 0#32
  let arg1 : BitVec 32 := BitVec.ofNat 32 (i 1).val
  let c256_i32_479 : BitVec 32 := 256#32
  let v825 : BitVec 32 := Scalar.muli arg1 c256_i32_479
  let c512_i32 : BitVec 32 := 512#32
  let v826 : BitVec 32 := Scalar.subi v825 c512_i32
  let c0_i32_480 : BitVec 32 := 0#32
  let v827 : BitVec 32 := Scalar.maxsi v826 c0_i32_480
  let v828 : BitVec 32 := v827
  let v1130 : Index := Scalar.indexCast v828
  let c896 : Index := 896#32
  ![0, 0, v1130.toNat, 896]
def k0_mult10 : BitVec 32 :=
  let c0_i32_683 : BitVec 32 := 0#32
  let c256_i32_684 : BitVec 32 := 256#32
  let v1173 : BitVec 32 := Scalar.muli c0_i32_683 c256_i32_684
  v1173
def k0_off11 (c0_i32_683 : BitVec 32) (c0_i32_713 : BitVec 32) : Fin 4 → Nat :=
  let c0_714 : Index := 0#32
  let c0_715 : Index := 0#32
  let c256_i32_684 : BitVec 32 := 256#32
  let v1173 : BitVec 32 := Scalar.muli c0_i32_683 c256_i32_684
  let v1174 : BitVec 32 := v1173
  let v1222 : BitVec 32 := Scalar.addi v1174 c0_i32_713
  let v1223 : Index := Scalar.indexCast v1222
  let c0_716 : Index := 0#32
  ![0, 0, v1223.toNat, 0]
def k0_off12 (c0_i32_683 : BitVec 32) (c0_i32_717 : BitVec 32) : Fin 3 → Nat :=
  let c0_718 : Index := 0#32
  let c256_i32_684 : BitVec 32 := 256#32
  let v1173 : BitVec 32 := Scalar.muli c0_i32_683 c256_i32_684
  let v1174 : BitVec 32 := v1173
  let v1231 : BitVec 32 := Scalar.addi v1174 c0_i32_717
  let v1232 : Index := Scalar.indexCast v1231
  let c0_719 : Index := 0#32
  ![0, v1232.toNat, 0]
def k0_mult11 : BitVec 32 :=
  let c1_i32_768 : BitVec 32 := 1#32
  let c256_i32_769 : BitVec 32 := 256#32
  let v1347 : BitVec 32 := Scalar.muli c1_i32_768 c256_i32_769
  v1347
def k0_mult12 : BitVec 32 :=
  let c2_i32_856 : BitVec 32 := 2#32
  let c256_i32_857 : BitVec 32 := 256#32
  let v1521 : BitVec 32 := Scalar.muli c2_i32_856 c256_i32_857
  v1521
def k0_mult13 : BitVec 32 :=
  let c3_i32_944 : BitVec 32 := 3#32
  let c256_i32_945 : BitVec 32 := 256#32
  let v1695 : BitVec 32 := Scalar.muli c3_i32_944 c256_i32_945
  v1695
def k0_mult14 : BitVec 32 :=
  let c4_i32_1032 : BitVec 32 := 4#32
  let c256_i32_1033 : BitVec 32 := 256#32
  let v1869 : BitVec 32 := Scalar.muli c4_i32_1032 c256_i32_1033
  v1869
def k0_mult15 : BitVec 32 :=
  let c5_i32_1120 : BitVec 32 := 5#32
  let c256_i32_1121 : BitVec 32 := 256#32
  let v2043 : BitVec 32 := Scalar.muli c5_i32_1120 c256_i32_1121
  v2043
def k0_mult16 : BitVec 32 :=
  let c6_i32_1208 : BitVec 32 := 6#32
  let c256_i32_1209 : BitVec 32 := 256#32
  let v2217 : BitVec 32 := Scalar.muli c6_i32_1208 c256_i32_1209
  v2217
def k0_mult17 : BitVec 32 :=
  let c7_i32_1296 : BitVec 32 := 7#32
  let c256_i32_1297 : BitVec 32 := 256#32
  let v2391 : BitVec 32 := Scalar.muli c7_i32_1296 c256_i32_1297
  v2391
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![c6_i32.toNat, arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S7x16384x1024 : Shape := ⟨3, ![7, 16384, 1024]⟩
abbrev S8x257 : Shape := ⟨2, ![8, 257]⟩
abbrev S1024 : Shape := ⟨1, ![1024]⟩
abbrev S1x16384x1024 : Shape := ⟨3, ![1, 16384, 1024]⟩
abbrev S16384x1024 : Shape := ⟨2, ![16384, 1024]⟩
abbrev S8x2048x1024 : Shape := ⟨3, ![8, 2048, 1024]⟩
abbrev S8x2048x8x128 : Shape := ⟨4, ![8, 2048, 8, 128]⟩
abbrev S8x8x2048x128 : Shape := ⟨4, ![8, 8, 2048, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S8x2048x2048 : Shape := ⟨3, ![8, 2048, 2048]⟩
abbrev S8x8x2048x2048 : Shape := ⟨4, ![8, 8, 2048, 2048]⟩
abbrev S1x8x2048x2048 : Shape := ⟨4, ![1, 8, 2048, 2048]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩
abbrev S8x1x128 : Shape := ⟨3, ![8, 1, 128]⟩
abbrev S1x8x1x128 : Shape := ⟨4, ![1, 8, 1, 128]⟩

abbrev nBuf : Space → Nat
  | .hbm => 144
  | .vmem => 0
  | .smem => 0
  | _ => 0

abbrev hbmTy0_0 (i : Nat) : BufTy := match i % 128 with
  | 0 => ⟨S7x16384x1024, .bf16⟩
  | 1 => ⟨S8x257, .f32⟩
  | 2 => ⟨S1024, .f32⟩
  | 3 => ⟨S1024, .f32⟩
  | 4 => ⟨S1x16384x1024, .bf16⟩
  | 5 => ⟨S16384x1024, .bf16⟩
  | 6 => ⟨S16384x1024, .f32⟩
  | 7 => ⟨S8x2048x1024, .f32⟩
  | 8 => ⟨S8x2048x8x128, .f32⟩
  | 9 => ⟨S8x8x2048x128, .f32⟩
  | 10 => ⟨S1x16384x1024, .bf16⟩
  | 11 => ⟨S16384x1024, .bf16⟩
  | 12 => ⟨S16384x1024, .f32⟩
  | 13 => ⟨S8x2048x1024, .f32⟩
  | 14 => ⟨S8x2048x8x128, .f32⟩
  | 15 => ⟨S8x8x2048x128, .f32⟩
  | 16 => ⟨S1x16384x1024, .bf16⟩
  | 17 => ⟨S16384x1024, .bf16⟩
  | 18 => ⟨S16384x1024, .f32⟩
  | 19 => ⟨S8x2048x1024, .f32⟩
  | 20 => ⟨S8x2048x8x128, .f32⟩
  | 21 => ⟨S8x8x2048x128, .f32⟩
  | 22 => ⟨S2048, .i32⟩
  | 23 => ⟨S2048x1, .i32⟩
  | 24 => ⟨S1x2048, .i32⟩
  | 25 => ⟨S2048x2048, .i32⟩
  | 26 => ⟨S2048x2048, .i32⟩
  | 27 => ⟨S2048x2048, .i32⟩
  | 28 => ⟨S_, .i32⟩
  | 29 => ⟨S_, .i32⟩
  | 30 => ⟨S_, .i32⟩
  | 31 => ⟨S2048x2048, .i32⟩
  | 32 => ⟨S2048x2048, .i32⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i32⟩
  | 39 => ⟨S_, .i32⟩
  | 40 => ⟨S2048x2048, .i32⟩
  | 41 => ⟨S2048x2048, .i1⟩
  | 42 => ⟨S_, .i32⟩
  | 43 => ⟨S2048x2048, .i32⟩
  | 44 => ⟨S2048x2048, .i32⟩
  | 45 => ⟨S2048x2048, .i32⟩
  | 46 => ⟨S2048x2048x1, .i32⟩
  | 47 => ⟨S8x2048x2048, .f32⟩
  | 48 => ⟨S2048x1, .i32⟩
  | 49 => ⟨S_, .i32⟩
  | 50 => ⟨S_, .i32⟩
  | 51 => ⟨S2048x1, .i32⟩
  | 52 => ⟨S2048x1, .i32⟩
  | 53 => ⟨S2048x1, .i32⟩
  | 54 => ⟨S_, .i32⟩
  | 55 => ⟨S2048x1, .i32⟩
  | 56 => ⟨S2048x1, .i1⟩
  | 57 => ⟨S2048x1, .i32⟩
  | 58 => ⟨S2048x1, .i32⟩
  | 59 => ⟨S_, .i32⟩
  | 60 => ⟨S2048x1, .i32⟩
  | 61 => ⟨S2048x1, .i1⟩
  | 62 => ⟨S2048x1, .i1⟩
  | 63 => ⟨S_, .i32⟩
  | 64 => ⟨S2048x1, .i32⟩
  | 65 => ⟨S2048x1, .i32⟩
  | 66 => ⟨S2048x1, .i32⟩
  | 67 => ⟨S1x2048, .i32⟩
  | 68 => ⟨S_, .i32⟩
  | 69 => ⟨S_, .i32⟩
  | 70 => ⟨S1x2048, .i32⟩
  | 71 => ⟨S1x2048, .i32⟩
  | 72 => ⟨S1x2048, .i32⟩
  | 73 => ⟨S_, .i32⟩
  | 74 => ⟨S1x2048, .i32⟩
  | 75 => ⟨S1x2048, .i1⟩
  | 76 => ⟨S1x2048, .i32⟩
  | 77 => ⟨S1x2048, .i32⟩
  | 78 => ⟨S_, .i32⟩
  | 79 => ⟨S1x2048, .i32⟩
  | 80 => ⟨S1x2048, .i1⟩
  | 81 => ⟨S1x2048, .i1⟩
  | 82 => ⟨S_, .i32⟩
  | 83 => ⟨S1x2048, .i32⟩
  | 84 => ⟨S1x2048, .i32⟩
  | 85 => ⟨S1x2048, .i32⟩
  | 86 => ⟨S2048x2048, .i32⟩
  | 87 => ⟨S2048x2048, .i32⟩
  | 88 => ⟨S2048x2048, .i32⟩
  | 89 => ⟨S_, .i32⟩
  | 90 => ⟨S2048x2048, .i32⟩
  | 91 => ⟨S2048x2048, .i1⟩
  | 92 => ⟨S_, .i32⟩
  | 93 => ⟨S2048x2048, .i32⟩
  | 94 => ⟨S2048x2048, .i1⟩
  | 95 => ⟨S2048x2048, .i1⟩
  | 96 => ⟨S8x8x2048x2048, .f32⟩
  | 97 => ⟨S_, .f32⟩
  | 98 => ⟨S8x8x2048x2048, .f32⟩
  | 99 => ⟨S8x8x2048x2048, .f32⟩
  | 100 => ⟨S1x8x2048x2048, .f32⟩
  | 101 => ⟨S8x8x2048x2048, .f32⟩
  | 102 => ⟨S8x8x2048x2048, .f32⟩
  | 103 => ⟨S1x1x2048x2048, .i1⟩
  | 104 => ⟨S_, .f32⟩
  | 105 => ⟨S_, .f32⟩
  | 106 => ⟨S8x8x2048x2048, .i1⟩
  | 107 => ⟨S8x8x2048x2048, .f32⟩
  | 108 => ⟨S8x8x2048x2048, .f32⟩
  | 109 => ⟨S_, .f32⟩
  | 110 => ⟨S8x8x2048, .f32⟩
  | 111 => ⟨S_, .f32⟩
  | 112 => ⟨S8x8x2048, .f32⟩
  | 113 => ⟨S8x8x2048, .f32⟩
  | 114 => ⟨S8x8x2048x1, .f32⟩
  | 115 => ⟨S8x8x2048x2048, .f32⟩
  | 116 => ⟨S8x8x2048x2048, .f32⟩
  | 117 => ⟨S8x8x2048x2048, .f32⟩
  | 118 => ⟨S_, .f32⟩
  | 119 => ⟨S8x8x2048, .f32⟩
  | 120 => ⟨S8x8x2048x1, .f32⟩
  | 121 => ⟨S8x8x2048x2048, .f32⟩
  | 122 => ⟨S8x8x2048x2048, .f32⟩
  | 123 => ⟨S8x8x2048x128, .f32⟩
  | 124 => ⟨S8x1x128, .f32⟩
  | 125 => ⟨S8x8x2048x128, .f32⟩
  | 126 => ⟨S_, .f32⟩
  | 127 => ⟨S8x8x2048, .f32⟩
  | _ => ⟨S7x16384x1024, .bf16⟩

abbrev hbmTy0_1 (i : Nat) : BufTy := match i % 128 with
  | 0 => ⟨S8x8x2048x1, .f32⟩
  | 1 => ⟨S_, .f32⟩
  | 2 => ⟨S8x8x2048x1, .f32⟩
  | 3 => ⟨S8x8x2048x1, .f32⟩
  | 4 => ⟨S_, .f32⟩
  | 5 => ⟨S8x8x2048x1, .f32⟩
  | 6 => ⟨S8x8x2048x1, .f32⟩
  | 7 => ⟨S8x8x2048x1, .f32⟩
  | 8 => ⟨S8x8x2048x128, .f32⟩
  | 9 => ⟨S8x8x2048x128, .f32⟩
  | 10 => ⟨S1x8x1x128, .f32⟩
  | 11 => ⟨S8x8x2048x128, .f32⟩
  | 12 => ⟨S8x8x2048x128, .f32⟩
  | 13 => ⟨S8x2048x8x128, .f32⟩
  | 14 => ⟨S8x2048x1024, .f32⟩
  | 15 => ⟨S8x2048x1024, .bf16⟩
  | _ => ⟨S7x16384x1024, .bf16⟩

abbrev hbmTy (i : Nat) : BufTy := match i / 128 with
  | 0 => hbmTy0_0 i
  | 1 => hbmTy0_1 i
  | _ => ⟨S7x16384x1024, .bf16⟩

abbrev bufTy : (tb : Table) → Fin (tcTables nBuf tb) → BufTy
  | .hbm, ⟨i, _⟩ => hbmTy i
  | _, _ => ⟨S7x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_c_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v35 : Ref sig .tc := ⟨.hbm, 66, rfl⟩
abbrev main_v36 : Ref sig .tc := ⟨.hbm, 67, rfl⟩
abbrev main_c_5 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_c_6 : Ref sig .tc := ⟨.hbm, 89, rfl⟩
abbrev main_v41 : Ref sig .tc := ⟨.hbm, 90, rfl⟩
abbrev main_v42 : Ref sig .tc := ⟨.hbm, 91, rfl⟩
abbrev main_c_7 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_8 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v53 : Ref sig .tc := ⟨.hbm, 108, rfl⟩
abbrev main_cst_9 : Ref sig .tc := ⟨.hbm, 109, rfl⟩
abbrev main_v54 : Ref sig .tc := ⟨.hbm, 110, rfl⟩
abbrev main_cst_10 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_cst_11 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_12 : Ref sig .tc := ⟨.hbm, 126, rfl⟩
abbrev main_v68 : Ref sig .tc := ⟨.hbm, 127, rfl⟩
abbrev main_v69 : Ref sig .tc := ⟨.hbm, 128, rfl⟩
abbrev main_cst_13 : Ref sig .tc := ⟨.hbm, 129, rfl⟩
abbrev main_v70 : Ref sig .tc := ⟨.hbm, 130, rfl⟩
abbrev main_v71 : Ref sig .tc := ⟨.hbm, 131, rfl⟩
abbrev main_cst_14 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩

abbrev nD : Nat := 1
abbrev τ : Topo := Topo.v7x

variable {F : FTy → Type} [FloatOps F]
-- ==== InKernel.lean ====
abbrev S8x2048x2048 : Shape := ⟨3, ![8, 2048, 2048]⟩
abbrev S4x2048 : Shape := ⟨2, ![4, 2048]⟩
abbrev S4x2048x7168 : Shape := ⟨3, ![4, 2048, 7168]⟩
abbrev S4x128 : Shape := ⟨2, ![4, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S16384x2048 : Shape := ⟨2, ![16384, 2048]⟩
abbrev S1x2048 : Shape := ⟨2, ![1, 2048]⟩
abbrev S1x128 : Shape := ⟨2, ![1, 128]⟩
abbrev S128 : Shape := ⟨1, ![128]⟩
abbrev S7x16384x1024 : Shape := ⟨3, ![7, 16384, 1024]⟩
abbrev S1024x2048 : Shape := ⟨2, ![1024, 2048]⟩
abbrev S1x2048x1024 : Shape := ⟨3, ![1, 2048, 1024]⟩
abbrev S1024x128 : Shape := ⟨2, ![1024, 128]⟩
abbrev S1x1024x1024 : Shape := ⟨3, ![1, 1024, 1024]⟩
abbrev S1024 : Shape := ⟨1, ![1024]⟩
abbrev S1024x1 : Shape := ⟨2, ![1024, 1]⟩
abbrev S1x2048x256 : Shape := ⟨3, ![1, 2048, 256]⟩
abbrev S2048x256 : Shape := ⟨2, ![2048, 256]⟩
abbrev S1024x256 : Shape := ⟨2, ![1024, 256]⟩
abbrev S1x1024x128 : Shape := ⟨3, ![1, 1024, 128]⟩

abbrev nBuf : Space → Nat
  | .hbm => 36
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S4x2048, .f32⟩
  | .hbm, ⟨2, _⟩ => ⟨S4x2048x7168, .f32⟩
  | .hbm, ⟨3, _⟩ => ⟨S4x128, .f32⟩
  | .hbm, ⟨4, _⟩ => ⟨S4x128, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S2048, .f32⟩
  | .hbm, ⟨14, _⟩ => ⟨S2048x1, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x128, .f32⟩
  | .hbm, ⟨22, _⟩ => ⟨S2048x64, .f32⟩
  | .hbm, ⟨23, _⟩ => ⟨S2048x128, .f32⟩
  | .hbm, ⟨24, _⟩ => ⟨S16384x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S4x2048x7168, .bf16⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S7x16384x1024, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let c4_i32 : BitVec 32 := 4#32
  let v10 : BitVec 1 := Scalar.cmpi .eq arg1 c4_i32
  let v11 : BitVec 1 := Scalar.ori v9 v10
  let v12 : BitVec 32 := Scalar.extui v11
  let c0_i32_4 : BitVec 32 := 0#32
  let v13 : BitVec 1 := Scalar.cmpi .ne v12 c0_i32_4
  v13

def k0_cond5 (i : grid0.Coords) : BitVec 1 :=
  let arg1 : BitVec 32 := BitVec.ofNat 32 (i 1).val
  let c2_i32 : BitVec 32 := 2#32
  let v14 : BitVec 1 := Scalar.cmpi .eq arg1 c2_i32
  let c5_i32 : BitVec 32 := 5#32
  let v15 : BitVec 1 := Scalar.cmpi .sge arg1 c5_i32
  let v16 : BitVec 1 := Scalar.ori v14 v15
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InReferenceIdeal.lean ====
abbrev S8x2048x2048 : Shape := ⟨3, ![8, 2048, 2048]⟩
abbrev S4x2048 : Shape := ⟨2, ![4, 2048]⟩
abbrev S4x2048x7168 : Shape := ⟨3, ![4, 2048, 7168]⟩
abbrev S4x128 : Shape := ⟨2, ![4, 128]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S1x2048x7168 : Shape := ⟨3, ![1, 2048, 7168]⟩
abbrev S2048x7168 : Shape := ⟨2, ![2048, 7168]⟩
abbrev S8x2048x7168 : Shape := ⟨3, ![8, 2048, 7168]⟩
abbrev S8x2048x1024 : Shape := ⟨3, ![8, 2048, 1024]⟩
abbrev S8x2048x8x128 : Shape := ⟨4, ![8, 2048, 8, 128]⟩
abbrev S8x8x2048x128 : Shape := ⟨4, ![8, 8, 2048, 128]⟩
abbrev S1x128 : Shape := ⟨2, ![1, 128]⟩
abbrev S128 : Shape := ⟨1, ![128]⟩
abbrev S8x8x2048 : Shape := ⟨3, ![8, 8, 2048]⟩
abbrev S8x8x2048x1 : Shape := ⟨4, ![8, 8, 2048, 1]⟩
abbrev S1x1x1x128 : Shape := ⟨4, ![1, 1, 1, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S8x8x2048x64 : Shape := ⟨4, ![8, 8, 2048, 64]⟩
abbrev S1x1x2048x64 : Shape := ⟨4, ![1, 1, 2048, 64]⟩
abbrev S1x8x2048x1024 : Shape := ⟨4, ![1, 8, 2048, 1024]⟩
abbrev S7x8x2048x1024 : Shape := ⟨4, ![7, 8, 2048, 1024]⟩
abbrev S7x16384x1024 : Shape := ⟨3, ![7, 16384, 1024]⟩

abbrev nBuf : Space → Nat
  | .hbm => 162
  | .vmem => 0
  | .smem => 0
  | _ => 0

abbrev hbmTy0_0 (i : Nat) : BufTy := match i % 128 with
  | 0 => ⟨S8x2048x2048, .f32⟩
  | 1 => ⟨S4x2048, .f32⟩
  | 2 => ⟨S4x2048x7168, .f32⟩
  | 3 => ⟨S4x128, .f32⟩
  | 4 => ⟨S4x128, .f32⟩
  | 5 => ⟨S1x2048, .f32⟩
  | 6 => ⟨S2048, .f32⟩
  | 7 => ⟨S8x2048x2048, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x2048, .f32⟩
  | 19 => ⟨S8x2048x2048, .f32⟩
  | 20 => ⟨S1x1x2048, .f32⟩
  | 21 => ⟨S8x2048x2048, .f32⟩
  | 22 => ⟨S8x2048x2048, .f32⟩
  | 23 => ⟨S1x2048x7168, .f32⟩
  | 24 => ⟨S2048x7168, .f32⟩
  | 25 => ⟨S8x2048x7168, .f32⟩
  | 26 => ⟨S8x2048x1024, .f32⟩
  | 27 => ⟨S8x2048x1024, .f32⟩
  | 28 => ⟨S8x2048x1024, .f32⟩
  | 29 => ⟨S8x2048x1024, .f32⟩
  | 30 => ⟨S8x2048x1024, .f32⟩
  | 31 => ⟨S8x2048x1024, .f32⟩
  | 32 => ⟨S8x2048x1024, .f32⟩
  | 33 => ⟨S8x2048x8x128, .f32⟩
  | 34 => ⟨S8x8x2048x128, .f32⟩
  | 35 => ⟨S1x128, .f32⟩
  | 36 => ⟨S128, .f32⟩
  | 37 => ⟨S8x8x2048x128, .f32⟩
  | 38 => ⟨S_, .f32⟩
  | 39 => ⟨S8x8x2048, .f32⟩
  | 40 => ⟨S8x8x2048x1, .f32⟩
  | 41 => ⟨S_, .f32⟩
  | 42 => ⟨S8x8x2048x1, .f32⟩
  | 43 => ⟨S8x8x2048x1, .f32⟩
  | 44 => ⟨S_, .f32⟩
  | 45 => ⟨S8x8x2048x1, .f32⟩
  | 46 => ⟨S8x8x2048x1, .f32⟩
  | 47 => ⟨S8x8x2048x1, .f32⟩
  | 48 => ⟨S8x8x2048x128, .f32⟩
  | 49 => ⟨S8x8x2048x128, .f32⟩
  | 50 => ⟨S1x1x1x128, .f32⟩
  | 51 => ⟨S8x8x2048x128, .f32⟩
  | 52 => ⟨S8x8x2048x128, .f32⟩
  | 53 => ⟨S8x2048x8x128, .f32⟩
  | 54 => ⟨S8x2048x1024, .f32⟩
  | 55 => ⟨S8x2048x8x128, .f32⟩
  | 56 => ⟨S8x8x2048x128, .f32⟩
  | 57 => ⟨S1x128, .f32⟩
  | 58 => ⟨S128, .f32⟩
  | 59 => ⟨S8x8x2048x128, .f32⟩
  | 60 => ⟨S_, .f32⟩
  | 61 => ⟨S8x8x2048, .f32⟩
  | 62 => ⟨S8x8x2048x1, .f32⟩
  | 63 => ⟨S_, .f32⟩
  | 64 => ⟨S8x8x2048x1, .f32⟩
  | 65 => ⟨S8x8x2048x1, .f32⟩
  | 66 => ⟨S_, .f32⟩
  | 67 => ⟨S8x8x2048x1, .f32⟩
  | 68 => ⟨S8x8x2048x1, .f32⟩
  | 69 => ⟨S8x8x2048x1, .f32⟩
  | 70 => ⟨S8x8x2048x128, .f32⟩
  | 71 => ⟨S8x8x2048x128, .f32⟩
  | 72 => ⟨S1x1x1x128, .f32⟩
  | 73 => ⟨S8x8x2048x128, .f32⟩
  | 74 => ⟨S8x8x2048x128, .f32⟩
  | 75 => ⟨S8x2048x8x128, .f32⟩
  | 76 => ⟨S8x2048x1024, .f32⟩
  | 77 => ⟨S2048, .i32⟩
  | 78 => ⟨S8x2048x8x128, .f32⟩
  | 79 => ⟨S8x8x2048x128, .f32⟩
  | 80 => ⟨S64, .f32⟩
  | 81 => ⟨S64, .f32⟩
  | 82 => ⟨S_, .f32⟩
  | 83 => ⟨S64, .f32⟩
  | 84 => ⟨S64, .f32⟩
  | 85 => ⟨S_, .f32⟩
  | 86 => ⟨S64, .f32⟩
  | 87 => ⟨S64, .f32⟩
  | 88 => ⟨S2048, .f32⟩
  | 89 => ⟨S2048x1, .f32⟩
  | 90 => ⟨S1x64, .f32⟩
  | 91 => ⟨S2048x64, .f32⟩
  | 92 => ⟨S2048x64, .f32⟩
  | 93 => ⟨S2048x64, .f32⟩
  | 94 => ⟨S2048x64, .f32⟩
  | 95 => ⟨S2048x64, .f32⟩
  | 96 => ⟨S8x8x2048x64, .f32⟩
  | 97 => ⟨S8x8x2048x64, .f32⟩
  | 98 => ⟨S1x1x2048x64, .f32⟩
  | 99 => ⟨S8x8x2048x64, .f32⟩
  | 100 => ⟨S8x8x2048x64, .f32⟩
  | 101 => ⟨S1x1x2048x64, .f32⟩
  | 102 => ⟨S8x8x2048x64, .f32⟩
  | 103 => ⟨S8x8x2048x64, .f32⟩
  | 104 => ⟨S8x8x2048x64, .f32⟩
  | 105 => ⟨S1x1x2048x64, .f32⟩
  | 106 => ⟨S8x8x2048x64, .f32⟩
  | 107 => ⟨S8x8x2048x64, .f32⟩
  | 108 => ⟨S1x1x2048x64, .f32⟩
  | 109 => ⟨S8x8x2048x64, .f32⟩
  | 110 => ⟨S8x8x2048x64, .f32⟩
  | 111 => ⟨S8x8x2048x64, .f32⟩
  | 112 => ⟨S8x8x2048x128, .f32⟩
  | 113 => ⟨S8x2048x8x128, .f32⟩
  | 114 => ⟨S8x2048x1024, .f32⟩
  | 115 => ⟨S8x2048x8x128, .f32⟩
  | 116 => ⟨S8x8x2048x128, .f32⟩
  | 117 => ⟨S64, .f32⟩
  | 118 => ⟨S64, .f32⟩
  | 119 => ⟨S_, .f32⟩
  | 120 => ⟨S64, .f32⟩
  | 121 => ⟨S64, .f32⟩
  | 122 => ⟨S_, .f32⟩
  | 123 => ⟨S64, .f32⟩
  | 124 => ⟨S64, .f32⟩
  | 125 => ⟨S2048, .f32⟩
  | 126 => ⟨S2048x1, .f32⟩
  | 127 => ⟨S1x64, .f32⟩
  | _ => ⟨S8x2048x2048, .f32⟩

abbrev hbmTy0_1 (i : Nat) : BufTy := match i % 128 with
  | 0 => ⟨S2048x64, .f32⟩
  | 1 => ⟨S2048x64, .f32⟩
  | 2 => ⟨S2048x64, .f32⟩
  | 3 => ⟨S2048x64, .f32⟩
  | 4 => ⟨S2048x64, .f32⟩
  | 5 => ⟨S8x8x2048x64, .f32⟩
  | 6 => ⟨S8x8x2048x64, .f32⟩
  | 7 => ⟨S1x1x2048x64, .f32⟩
  | 8 => ⟨S8x8x2048x64, .f32⟩
  | 9 => ⟨S8x8x2048x64, .f32⟩
  | 10 => ⟨S1x1x2048x64, .f32⟩
  | 11 => ⟨S8x8x2048x64, .f32⟩
  | 12 => ⟨S8x8x2048x64, .f32⟩
  | 13 => ⟨S8x8x2048x64, .f32⟩
  | 14 => ⟨S1x1x2048x64, .f32⟩
  | 15 => ⟨S8x8x2048x64, .f32⟩
  | 16 => ⟨S8x8x2048x64, .f32⟩
  | 17 => ⟨S1x1x2048x64, .f32⟩
  | 18 => ⟨S8x8x2048x64, .f32⟩
  | 19 => ⟨S8x8x2048x64, .f32⟩
  | 20 => ⟨S8x8x2048x64, .f32⟩
  | 21 => ⟨S8x8x2048x128, .f32⟩
  | 22 => ⟨S8x2048x8x128, .f32⟩
  | 23 => ⟨S8x2048x1024, .f32⟩
  | 24 => ⟨S1x8x2048x1024, .f32⟩
  | 25 => ⟨S1x8x2048x1024, .f32⟩
  | 26 => ⟨S1x8x2048x1024, .f32⟩
  | 27 => ⟨S1x8x2048x1024, .f32⟩
  | 28 => ⟨S1x8x2048x1024, .f32⟩
  | 29 => ⟨S1x8x2048x1024, .f32⟩
  | 30 => ⟨S1x8x2048x1024, .f32⟩
  | 31 => ⟨S7x8x2048x1024, .f32⟩
  | 32 => ⟨S7x16384x1024, .f32⟩
  | 33 => ⟨S7x16384x1024, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_v68 : Ref sig .tc := ⟨.hbm, 83, rfl⟩
abbrev main_v69 : Ref sig .tc := ⟨.hbm, 84, rfl⟩
abbrev main_cst_9 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_10 : Ref sig .tc := ⟨.hbm, 119, rfl⟩
abbrev main_v103 : Ref sig .tc := ⟨.hbm, 120, rfl⟩
abbrev main_v104 : Ref sig .tc := ⟨.hbm, 121, rfl⟩
abbrev main_cst_11 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩

abbrev nD : Nat := 1
abbrev τ : Topo := Topo.v7x

variable {F : FTy → Type} [FloatOps F]
-- ==== OutKernel.lean ====
abbrev S8x2048x2048 : Shape := ⟨3, ![8, 2048, 2048]⟩
abbrev S8x2048x1024 : Shape := ⟨3, ![8, 2048, 1024]⟩
abbrev S4x2048x2048 : Shape := ⟨3, ![4, 2048, 2048]⟩
abbrev S4x2048 : Shape := ⟨2, ![4, 2048]⟩
abbrev S16384x2048 : Shape := ⟨2, ![16384, 2048]⟩
abbrev S16384x1024 : Shape := ⟨2, ![16384, 1024]⟩
abbrev S1x2048 : Shape := ⟨2, ![1, 2048]⟩
abbrev S2048 : Shape := ⟨1, ![2048]⟩
abbrev S512x2048 : Shape := ⟨2, ![512, 2048]⟩
abbrev S512x1024 : Shape := ⟨2, ![512, 1024]⟩
abbrev S1x1024x2048 : Shape := ⟨3, ![1, 1024, 2048]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S8x2048x1024, .bf16⟩
  | .hbm, ⟨3, _⟩ => ⟨S4x2048x2048, .f32⟩
  | .hbm, ⟨4, _⟩ => ⟨S4x2048, .f32⟩
  | .hbm, ⟨5, _⟩ => ⟨S16384x2048, .f32⟩
  | .hbm, ⟨6, _⟩ => ⟨S16384x1024, .bf16⟩
  | .hbm, ⟨7, _⟩ => ⟨S16384x1024, .bf16⟩
  | .hbm, ⟨8, _⟩ => ⟨S4x2048x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S8x2048x2048 : Shape := ⟨3, ![8, 2048, 2048]⟩
abbrev S8x2048x1024 : Shape := ⟨3, ![8, 2048, 1024]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S8x2048x1024, .bf16⟩
  | .hbm, ⟨3, _⟩ => ⟨S4x2048x2048, .f32⟩
  | .hbm, ⟨4, _⟩ => ⟨S4x2048, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S1x2048x2048, .f32⟩
  | .hbm, ⟨9, _⟩ => ⟨S2048x2048, .f32⟩
  | .hbm, ⟨10, _⟩ => ⟨S8x2048x2048, .f32⟩
  | .hbm, ⟨11, _⟩ => ⟨S8x2048x2048, .f32⟩
  | .hbm, ⟨12, _⟩ => ⟨S1x2048, .f32⟩
  | .hbm, ⟨13, _⟩ => ⟨S2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S1x1x2048, .f32⟩
  | .hbm, ⟨28, _⟩ => ⟨S8x2048x2048, .f32⟩
  | .hbm, ⟨29, _⟩ => ⟨S8x2048x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Mixers.Body.lean ====
/-
  The mixers' body run once, at symbolic operands: from the fourteen staged inputs held at given contents, the two output
  blocks and the two scratch buffers at anything, the body runs to its return with the inputs as they were and the two
  output blocks at terms over the inputs alone.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.Mixers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a staged buffer on core `c`. -/
abbrev Bf (c : Dev nD) {sp : Space} {S : Shape} {e : EltTy} (M : Memref sig .tc sp S e) : Type :=
  Buf (Elt F) (M.view.loc (c : Thread nD τ))

/-- A buffer held whole on core `c` at the contents `f`. -/
abbrev pt (c : Dev nD) {sp : Space} {S : Shape} {e : EltTy} (M : Memref sig .tc sp S e) (f : Bf (F := F) c M) : sProp 𝕄 :=
  M.view.loc (c : Thread nD τ) ↦{fullShare} f

/-- The elements of a buffer held on core `c` at the contents `f`. -/
abbrev ps (c : Dev nD) {sp : Space} {S : Shape} {e : EltTy} (M : Memref sig .tc sp S e) (f : Bf (F := F) c M) : sProp 𝕄 :=
  M.view.loc (c : Thread nD τ) ↦[M.view.set]{fullShare} f

/-- What the body leaves in its two output blocks, with the proof that it runs and leaves it. -/
noncomputable def bodyRun (c : Dev nD) (i : grid0.Coords) (arg2 : Memref sig .tc .vmem S1x1x256x1024 .bf16) (harg2 : arg2.IsWhole) (arg3 : Memref sig .tc .vmem S1x1x2048x1024 .bf16) (harg3 : arg3.IsWhole) (arg4 : Memref sig .tc .vmem S1x1x2048x1024 .bf16) (harg4 : arg4.IsWhole) (arg5 : Memref sig .tc .vmem S1x8x256x768 .f32) (harg5 : arg5.IsWhole) (arg6 : Memref sig .tc .vmem S1x1024 .f32) (harg6 : arg6.IsWhole) (arg7 : Memref sig .tc .vmem S1x1x2048x128 .bf16) (harg7 : arg7.IsWhole) (arg8 : Memref sig .tc .vmem S1x1x2048x128 .bf16) (harg8 : arg8.IsWhole) (arg9 : Memref sig .tc .vmem S1x1x2048x128 .bf16) (harg9 : arg9.IsWhole) (arg10 : Memref sig .tc .vmem S1x1x2048x128 .bf16) (harg10 : arg10.IsWhole) (arg11 : Memref sig .tc .vmem S1x256x256 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x1x128 .f32) (harg14 : arg14.IsWhole) (arg15 : Memref sig .tc .vmem S1x128 .f32) (harg15 : arg15.IsWhole) (arg16 : Memref sig .tc .vmem S1x256x1024 .bf16) (harg16 : arg16.IsWhole) (arg17 : Memref sig .tc .vmem S1x2048x128 .bf16) (harg17 : arg17.IsWhole) (arg18 : Memref sig .tc .vmem S32x128x128 .f32) (harg18 : arg18.IsWhole) (arg19 : Memref sig .tc .vmem S32x128x128 .bf16) (harg19 : arg19.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) :
    { W : Bf (F := F) c arg16 × Bf (F := F) c arg17 //
      ∀ (f16 : Bf (F := F) c arg16) (f17 : Bf (F := F) c arg17) (f18 : Bf (F := F) c arg18) (f19 : Bf (F := F) c arg19) (E : Set ℕ) (Q : PUnit → sProp 𝕄),
        iprop(ps c arg2 f2 ∗ ps c arg3 f3 ∗ ps c arg4 f4 ∗ ps c arg5 f5 ∗ ps c arg6 f6 ∗ ps c arg7 f7 ∗ ps c arg8 f8 ∗ ps c arg9 f9 ∗ ps c arg10 f10 ∗ ps c arg11 f11 ∗ ps c arg12 f12 ∗ ps c arg13 f13 ∗ ps c arg14 f14 ∗ ps c arg15 f15 ∗ ps c arg16 f16 ∗ ps c arg17 f17 ∗ pt c arg18 f18 ∗ pt c arg19 f19
          ∗ (iprop(ps c arg2 f2 ∗ ps c arg3 f3 ∗ ps c arg4 f4 ∗ ps c arg5 f5 ∗ ps c arg6 f6 ∗ ps c arg7 f7 ∗ ps c arg8 f8 ∗ ps c arg9 f9 ∗ ps c arg10 f10 ∗ ps c arg11 f11 ∗ ps c arg12 f12 ∗ ps c arg13 f13 ∗ ps c arg14 f14 ∗ ps c arg15 f15
              ∗ ps c arg16 W.1 ∗ ps c arg17 W.2
              ∗ (∃ f, pt c arg18 f) ∗ (∃ f, pt c arg19 f)) -∗ Q ⟨⟩))
        ⊢ wp frame (wpE (defs₀ (F := F)) Variants.none c none) E
            (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q } := by
  refine ⟨⟨?_, ?_⟩, fun f16 f17 f18 f19 E Q => ?run⟩
  case run =>
    iintro ⟨H2, H3, H4, H5, H6, H7, H8, H9, H10, H11, H12, H13, H14, H15, H16, H17, H18, H19, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    iexists _; iexact H19

end Cert.Mixers

end
-- ==== Proof.Mixers.Frame.lean ====
/-
  The mixers' frame: the run of the body at each grid point, as the pipeline's proof data, and the run of the whole program
  from it — every argument array ends as it began and every semaphore counter ends at zero.
-/
module

public import proofs.«01_k».proof.Proof.Mixers.Body
public import Idealize.ShloMosaic.Lib.Claim

@[expose] public section

set_option maxRecDepth 16384

noncomputable section

namespace Cert.Mixers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A run of the body from any contents to the outputs `A` and `R`, in terms of what the whole buffers read. -/
theorem owned_of_run (c : Dev nD) (arg2 : Memref sig .tc .vmem S1x1x256x1024 .bf16) (harg2 : arg2.IsWhole) (arg3 : Memref sig .tc .vmem S1x1x2048x1024 .bf16) (harg3 : arg3.IsWhole) (arg4 : Memref sig .tc .vmem S1x1x2048x1024 .bf16) (harg4 : arg4.IsWhole) (arg5 : Memref sig .tc .vmem S1x8x256x768 .f32) (harg5 : arg5.IsWhole) (arg6 : Memref sig .tc .vmem S1x1024 .f32) (harg6 : arg6.IsWhole) (arg7 : Memref sig .tc .vmem S1x1x2048x128 .bf16) (harg7 : arg7.IsWhole) (arg8 : Memref sig .tc .vmem S1x1x2048x128 .bf16) (harg8 : arg8.IsWhole) (arg9 : Memref sig .tc .vmem S1x1x2048x128 .bf16) (harg9 : arg9.IsWhole) (arg10 : Memref sig .tc .vmem S1x1x2048x128 .bf16) (harg10 : arg10.IsWhole) (arg11 : Memref sig .tc .vmem S1x256x256 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x1x128 .f32) (harg14 : arg14.IsWhole) (arg15 : Memref sig .tc .vmem S1x128 .f32) (harg15 : arg15.IsWhole) (arg16 : Memref sig .tc .vmem S1x256x1024 .bf16) (harg16 : arg16.IsWhole) (arg17 : Memref sig .tc .vmem S1x2048x128 .bf16) (harg17 : arg17.IsWhole) (arg18 : Memref sig .tc .vmem S32x128x128 .f32) (harg18 : arg18.IsWhole) (arg19 : Memref sig .tc .vmem S32x128x128 .bf16) (harg19 : arg19.IsWhole) (K : sProp 𝕄) (wpK : sProp 𝕄)
    (x2 : Vec F S1x1x256x1024 .bf16) (x3 : Vec F S1x1x2048x1024 .bf16) (x4 : Vec F S1x1x2048x1024 .bf16) (x5 : Vec F S1x8x256x768 .f32) (x6 : Vec F S1x1024 .f32) (x7 : Vec F S1x1x2048x128 .bf16) (x8 : Vec F S1x1x2048x128 .bf16) (x9 : Vec F S1x1x2048x128 .bf16) (x10 : Vec F S1x1x2048x128 .bf16) (x11 : Vec F S1x256x256 .f32) (x12 : Vec F S1x256x128 .f32) (x13 : Vec F S1x256x128 .f32) (x14 : Vec F S1x1x128 .f32) (x15 : Vec F S1x128 .f32) (A : Bf (F := F) c arg16) (R : Bf (F := F) c arg17)
    (h : ∀ (f16 : Bf (F := F) c arg16) (f17 : Bf (F := F) c arg17) (f18 : Bf (F := F) c arg18) (f19 : Bf (F := F) c arg19), iprop(ps (F := F) c arg2 (harg2.unread x2) ∗ ps (F := F) c arg3 (harg3.unread x3) ∗ ps (F := F) c arg4 (harg4.unread x4) ∗ ps (F := F) c arg5 (harg5.unread x5) ∗ ps (F := F) c arg6 (harg6.unread x6) ∗ ps (F := F) c arg7 (harg7.unread x7) ∗ ps (F := F) c arg8 (harg8.unread x8) ∗ ps (F := F) c arg9 (harg9.unread x9) ∗ ps (F := F) c arg10 (harg10.unread x10) ∗ ps (F := F) c arg11 (harg11.unread x11) ∗ ps (F := F) c arg12 (harg12.unread x12) ∗ ps (F := F) c arg13 (harg13.unread x13) ∗ ps (F := F) c arg14 (harg14.unread x14) ∗ ps (F := F) c arg15 (harg15.unread x15) ∗ ps (F := F) c arg16 f16 ∗ ps (F := F) c arg17 f17 ∗ pt (F := F) c arg18 f18 ∗ pt (F := F) c arg19 f19
        ∗ (iprop(ps (F := F) c arg2 (harg2.unread x2) ∗ ps (F := F) c arg3 (harg3.unread x3) ∗ ps (F := F) c arg4 (harg4.unread x4) ∗ ps (F := F) c arg5 (harg5.unread x5) ∗ ps (F := F) c arg6 (harg6.unread x6) ∗ ps (F := F) c arg7 (harg7.unread x7) ∗ ps (F := F) c arg8 (harg8.unread x8) ∗ ps (F := F) c arg9 (harg9.unread x9) ∗ ps (F := F) c arg10 (harg10.unread x10) ∗ ps (F := F) c arg11 (harg11.unread x11) ∗ ps (F := F) c arg12 (harg12.unread x12) ∗ ps (F := F) c arg13 (harg13.unread x13) ∗ ps (F := F) c arg14 (harg14.unread x14) ∗ ps (F := F) c arg15 (harg15.unread x15) ∗ ps (F := F) c arg16 A ∗ ps (F := F) c arg17 R ∗ (∃ f, pt (F := F) c arg18 f) ∗ (∃ f, pt (F := F) c arg19 f)) -∗ K)) ⊢ wpK) :
    iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (x12) ∗ owns (c : Thread nD τ) arg13 fullShare (x13) ∗ owns (c : Thread nD τ) arg14 fullShare (x14) ∗ owns (c : Thread nD τ) arg15 fullShare (x15) ∗ (∃ d, owns (c : Thread nD τ) arg16 fullShare (d)) ∗ (∃ d, owns (c : Thread nD τ) arg17 fullShare (d)) ∗ (∃ f, pt (F := F) c arg18 f) ∗ (∃ f, pt (F := F) c arg19 f)
        ∗ (iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (x12) ∗ owns (c : Thread nD τ) arg13 fullShare (x13) ∗ owns (c : Thread nD τ) arg14 fullShare (x14) ∗ owns (c : Thread nD τ) arg15 fullShare (x15) ∗ owns (c : Thread nD τ) arg16 fullShare (arg16.view.read (Elt F) A)
            ∗ owns (c : Thread nD τ) arg17 fullShare (arg17.view.read (Elt F) R)
            ∗ (∃ f, pt (F := F) c arg18 f) ∗ (∃ f, pt (F := F) c arg19 f)) -∗ K)) ⊢ wpK := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%f18, H18⟩, ⟨%f19, H19⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  iapply (h f16 f17 f18 f19)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H2, H3, H4, H5, H6, H7, H8, H9, H10, H11, H12, H13, H14, H15, H16, H17, H18, H19⟩
  iapply Hk
  isplitl [H2]
  · iexists _; isplitr; · ipureintro; exact harg2.read_unread x2
    iexact H2
  isplitl [H3]
  · iexists _; isplitr; · ipureintro; exact harg3.read_unread x3
    iexact H3
  isplitl [H4]
  · iexists _; isplitr; · ipureintro; exact harg4.read_unread x4
    iexact H4
  isplitl [H5]
  · iexists _; isplitr; · ipureintro; exact harg5.read_unread x5
    iexact H5
  isplitl [H6]
  · iexists _; isplitr; · ipureintro; exact harg6.read_unread x6
    iexact H6
  isplitl [H7]
  · iexists _; isplitr; · ipureintro; exact harg7.read_unread x7
    iexact H7
  isplitl [H8]
  · iexists _; isplitr; · ipureintro; exact harg8.read_unread x8
    iexact H8
  isplitl [H9]
  · iexists _; isplitr; · ipureintro; exact harg9.read_unread x9
    iexact H9
  isplitl [H10]
  · iexists _; isplitr; · ipureintro; exact harg10.read_unread x10
    iexact H10
  isplitl [H11]
  · iexists _; isplitr; · ipureintro; exact harg11.read_unread x11
    iexact H11
  isplitl [H12]
  · iexists _; isplitr; · ipureintro; exact harg12.read_unread x12
    iexact H12
  isplitl [H13]
  · iexists _; isplitr; · ipureintro; exact harg13.read_unread x13
    iexact H13
  isplitl [H14]
  · iexists _; isplitr; · ipureintro; exact harg14.read_unread x14
    iexact H14
  isplitl [H15]
  · iexists _; isplitr; · ipureintro; exact harg15.read_unread x15
    iexact H15
  isplitl [H16]
  · iexists A; isplitr; · ipureintro; rfl
    iexact H16
  isplitl [H17]
  · iexists R; isplitr; · ipureintro; rfl
    iexact H17
  isplitl [H18]; · iexact H18
  iexact H19

/-- The body on whole buffers, the inputs read as given and the rest at anything, runs to the continuation with the inputs
    as they were and the outputs at what the run leaves. -/
theorem sound_kernel (c : Dev nD) (i : grid0.Coords) (arg2 : Memref sig .tc .vmem S1x1x256x1024 .bf16) (harg2 : arg2.IsWhole) (arg3 : Memref sig .tc .vmem S1x1x2048x1024 .bf16) (harg3 : arg3.IsWhole) (arg4 : Memref sig .tc .vmem S1x1x2048x1024 .bf16) (harg4 : arg4.IsWhole) (arg5 : Memref sig .tc .vmem S1x8x256x768 .f32) (harg5 : arg5.IsWhole) (arg6 : Memref sig .tc .vmem S1x1024 .f32) (harg6 : arg6.IsWhole) (arg7 : Memref sig .tc .vmem S1x1x2048x128 .bf16) (harg7 : arg7.IsWhole) (arg8 : Memref sig .tc .vmem S1x1x2048x128 .bf16) (harg8 : arg8.IsWhole) (arg9 : Memref sig .tc .vmem S1x1x2048x128 .bf16) (harg9 : arg9.IsWhole) (arg10 : Memref sig .tc .vmem S1x1x2048x128 .bf16) (harg10 : arg10.IsWhole) (arg11 : Memref sig .tc .vmem S1x256x256 .f32) (harg11 : arg11.IsWhole) (arg12 : Memref sig .tc .vmem S1x256x128 .f32) (harg12 : arg12.IsWhole) (arg13 : Memref sig .tc .vmem S1x256x128 .f32) (harg13 : arg13.IsWhole) (arg14 : Memref sig .tc .vmem S1x1x128 .f32) (harg14 : arg14.IsWhole) (arg15 : Memref sig .tc .vmem S1x128 .f32) (harg15 : arg15.IsWhole) (arg16 : Memref sig .tc .vmem S1x256x1024 .bf16) (harg16 : arg16.IsWhole) (arg17 : Memref sig .tc .vmem S1x2048x128 .bf16) (harg17 : arg17.IsWhole) (arg18 : Memref sig .tc .vmem S32x128x128 .f32) (harg18 : arg18.IsWhole) (arg19 : Memref sig .tc .vmem S32x128x128 .bf16) (harg19 : arg19.IsWhole) (x2 : Vec F S1x1x256x1024 .bf16) (x3 : Vec F S1x1x2048x1024 .bf16) (x4 : Vec F S1x1x2048x1024 .bf16) (x5 : Vec F S1x8x256x768 .f32) (x6 : Vec F S1x1024 .f32) (x7 : Vec F S1x1x2048x128 .bf16) (x8 : Vec F S1x1x2048x128 .bf16) (x9 : Vec F S1x1x2048x128 .bf16) (x10 : Vec F S1x1x2048x128 .bf16) (x11 : Vec F S1x256x256 .f32) (x12 : Vec F S1x256x128 .f32) (x13 : Vec F S1x256x128 .f32) (x14 : Vec F S1x1x128 .f32) (x15 : Vec F S1x128 .f32) (E : Set ℕ) (K : PUnit → sProp 𝕄) :
    iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (x12) ∗ owns (c : Thread nD τ) arg13 fullShare (x13) ∗ owns (c : Thread nD τ) arg14 fullShare (x14) ∗ owns (c : Thread nD τ) arg15 fullShare (x15) ∗ (∃ d, owns (c : Thread nD τ) arg16 fullShare (d)) ∗ (∃ d, owns (c : Thread nD τ) arg17 fullShare (d)) ∗ (∃ f, pt (F := F) c arg18 f) ∗ (∃ f, pt (F := F) c arg19 f)
        ∗ (iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (x12) ∗ owns (c : Thread nD τ) arg13 fullShare (x13) ∗ owns (c : Thread nD τ) arg14 fullShare (x14) ∗ owns (c : Thread nD τ) arg15 fullShare (x15) ∗ owns (c : Thread nD τ) arg16 fullShare (arg16.view.read (Elt F) (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15)).1.1)
            ∗ owns (c : Thread nD τ) arg17 fullShare (arg17.view.read (Elt F) (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15)).1.2)
            ∗ (∃ f, pt (F := F) c arg18 f) ∗ (∃ f, pt (F := F) c arg19 f)) -∗ K ⟨⟩))
      ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K :=
  owned_of_run c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (K ⟨⟩) _ x2 x3 x4 x5 x6 x7 x8 x9 x10 x11 x12 x13 x14 x15 _ _
    (fun f16 f17 f18 f19 => (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15)).2 f16 f17 f18 f19 E K)

/-- The body's run at grid point `t`, its inputs the blocks staged there. -/
def runAt (c : Dev nD) (t : Fin cfg0.N) := bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t)) ((hstage0_9 ((cfg0.slots t 9).cast nbuf0_9)).unread (iblk m c 9 t)) ((hstage0_10 ((cfg0.slots t 10).cast nbuf0_10)).unread (iblk m c 10 t)) ((hstage0_11 ((cfg0.slots t 11).cast nbuf0_11)).unread (iblk m c 11 t)) ((hstage0_12 ((cfg0.slots t 12).cast nbuf0_12)).unread (iblk m c 12 t)) ((hstage0_13 ((cfg0.slots t 13).cast nbuf0_13)).unread (iblk m c 13 t))

/-- The attention's output block after point `t`. -/
def leftA (c : Dev nD) (t : Fin cfg0.N) : Vec F S1x256x1024 .bf16 := (win0_14.stage (cfg0.slots t 14)).view.read (Elt F) (runAt m c t).1.1

/-- The retention's output block after point `t`. -/
def leftR (c : Dev nD) (t : Fin cfg0.N) : Vec F S1x2048x128 .bf16 := (win0_15.stage (cfg0.slots t 15)).view.read (Elt F) (runAt m c t).1.2

/-- The pipeline's proof data: each input's buffer holds its block, each output's what the body left; the scratch buffers and
    the generator register are at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => leftA m c t
    | ⟨15, _⟩ => leftR m c t
    | ⟨_ + 16, h⟩ => absurd h (Nat.not_lt.2 (Nat.le_add_left _ _))
  Φ _ := Pipeline.ΦA spec0 c
  q w := Pipeline.shareOf spec0 w
  owed _ := 0

/-- The arrays the proof data speaks of are those at the region's entry. -/
theorem A_eq (c : Dev nD) (w : Fin cfg0.W) : (dats m 0 c).A w = V m c (Pipeline.arrRef spec0 w) := by
  dsimp only [dats]

/-- Input 0 keeps its block. -/
theorem after_0 (c : Dev nD) (t : Fin cfg0.N) : (dats m 0 c).after 0 t = iblk m c 0 t := by dsimp only [dats]
/-- Input 1 keeps its block. -/
theorem after_1 (c : Dev nD) (t : Fin cfg0.N) : (dats m 0 c).after 1 t = iblk m c 1 t := by dsimp only [dats]
/-- Input 2 keeps its block. -/
theorem after_2 (c : Dev nD) (t : Fin cfg0.N) : (dats m 0 c).after 2 t = iblk m c 2 t := by dsimp only [dats]
/-- Input 3 keeps its block. -/
theorem after_3 (c : Dev nD) (t : Fin cfg0.N) : (dats m 0 c).after 3 t = iblk m c 3 t := by dsimp only [dats]
/-- Input 4 keeps its block. -/
theorem after_4 (c : Dev nD) (t : Fin cfg0.N) : (dats m 0 c).after 4 t = iblk m c 4 t := by dsimp only [dats]
/-- Input 5 keeps its block. -/
theorem after_5 (c : Dev nD) (t : Fin cfg0.N) : (dats m 0 c).after 5 t = iblk m c 5 t := by dsimp only [dats]
/-- Input 6 keeps its block. -/
theorem after_6 (c : Dev nD) (t : Fin cfg0.N) : (dats m 0 c).after 6 t = iblk m c 6 t := by dsimp only [dats]
/-- Input 7 keeps its block. -/
theorem after_7 (c : Dev nD) (t : Fin cfg0.N) : (dats m 0 c).after 7 t = iblk m c 7 t := by dsimp only [dats]
/-- Input 8 keeps its block. -/
theorem after_8 (c : Dev nD) (t : Fin cfg0.N) : (dats m 0 c).after 8 t = iblk m c 8 t := by dsimp only [dats]
/-- Input 9 keeps its block. -/
theorem after_9 (c : Dev nD) (t : Fin cfg0.N) : (dats m 0 c).after 9 t = iblk m c 9 t := by dsimp only [dats]
/-- Input 10 keeps its block. -/
theorem after_10 (c : Dev nD) (t : Fin cfg0.N) : (dats m 0 c).after 10 t = iblk m c 10 t := by dsimp only [dats]
/-- Input 11 keeps its block. -/
theorem after_11 (c : Dev nD) (t : Fin cfg0.N) : (dats m 0 c).after 11 t = iblk m c 11 t := by dsimp only [dats]
/-- Input 12 keeps its block. -/
theorem after_12 (c : Dev nD) (t : Fin cfg0.N) : (dats m 0 c).after 12 t = iblk m c 12 t := by dsimp only [dats]
/-- Input 13 keeps its block. -/
theorem after_13 (c : Dev nD) (t : Fin cfg0.N) : (dats m 0 c).after 13 t = iblk m c 13 t := by dsimp only [dats]
/-- The attention window ends with what the body left. -/
theorem after_14 (c : Dev nD) (t : Fin cfg0.N) : (dats m 0 c).after 14 t = leftA m c t := by dsimp only [dats]
/-- The retention window ends with what the body left. -/
theorem after_15 (c : Dev nD) (t : Fin cfg0.N) : (dats m 0 c).after 15 t = leftR m c t := by dsimp only [dats]
/-- Input 0 holds its block before the body. -/
theorem before_0 (c : Dev nD) (t : Fin cfg0.N) (d) : (dats m 0 c).before 0 t d = iblk m c 0 t :=
  before0_0_of m (dats m 0 c) (A_eq m c 0) (after_0 m c) t d
/-- Input 1 holds its block before the body. -/
theorem before_1 (c : Dev nD) (t : Fin cfg0.N) (d) : (dats m 0 c).before 1 t d = iblk m c 1 t :=
  before0_1_of m (dats m 0 c) (A_eq m c 1) (after_1 m c) t d
/-- Input 2 holds its block before the body. -/
theorem before_2 (c : Dev nD) (t : Fin cfg0.N) (d) : (dats m 0 c).before 2 t d = iblk m c 2 t :=
  before0_2_of m (dats m 0 c) (A_eq m c 2) (after_2 m c) t d
/-- Input 3 holds its block before the body. -/
theorem before_3 (c : Dev nD) (t : Fin cfg0.N) (d) : (dats m 0 c).before 3 t d = iblk m c 3 t :=
  before0_3_of m (dats m 0 c) (A_eq m c 3) (after_3 m c) t d
/-- Input 4 holds its block before the body. -/
theorem before_4 (c : Dev nD) (t : Fin cfg0.N) (d) : (dats m 0 c).before 4 t d = iblk m c 4 t :=
  before0_4_of m (dats m 0 c) (A_eq m c 4) (after_4 m c) t d
/-- Input 5 holds its block before the body. -/
theorem before_5 (c : Dev nD) (t : Fin cfg0.N) (d) : (dats m 0 c).before 5 t d = iblk m c 5 t :=
  before0_5_of m (dats m 0 c) (A_eq m c 5) (after_5 m c) t d
/-- Input 6 holds its block before the body. -/
theorem before_6 (c : Dev nD) (t : Fin cfg0.N) (d) : (dats m 0 c).before 6 t d = iblk m c 6 t :=
  before0_6_of m (dats m 0 c) (A_eq m c 6) (after_6 m c) t d
/-- Input 7 holds its block before the body. -/
theorem before_7 (c : Dev nD) (t : Fin cfg0.N) (d) : (dats m 0 c).before 7 t d = iblk m c 7 t :=
  before0_7_of m (dats m 0 c) (A_eq m c 7) (after_7 m c) t d
/-- Input 8 holds its block before the body. -/
theorem before_8 (c : Dev nD) (t : Fin cfg0.N) (d) : (dats m 0 c).before 8 t d = iblk m c 8 t :=
  before0_8_of m (dats m 0 c) (A_eq m c 8) (after_8 m c) t d
/-- Input 9 holds its block before the body. -/
theorem before_9 (c : Dev nD) (t : Fin cfg0.N) (d) : (dats m 0 c).before 9 t d = iblk m c 9 t :=
  before0_9_of m (dats m 0 c) (A_eq m c 9) (after_9 m c) t d
/-- Input 10 holds its block before the body. -/
theorem before_10 (c : Dev nD) (t : Fin cfg0.N) (d) : (dats m 0 c).before 10 t d = iblk m c 10 t :=
  before0_10_of m (dats m 0 c) (A_eq m c 10) (after_10 m c) t d
/-- Input 11 holds its block before the body. -/
theorem before_11 (c : Dev nD) (t : Fin cfg0.N) (d) : (dats m 0 c).before 11 t d = iblk m c 11 t :=
  before0_11_of m (dats m 0 c) (A_eq m c 11) (after_11 m c) t d
/-- Input 12 holds its block before the body. -/
theorem before_12 (c : Dev nD) (t : Fin cfg0.N) (d) : (dats m 0 c).before 12 t d = iblk m c 12 t :=
  before0_12_of m (dats m 0 c) (A_eq m c 12) (after_12 m c) t d
/-- Input 13 holds its block before the body. -/
theorem before_13 (c : Dev nD) (t : Fin cfg0.N) (d) : (dats m 0 c).before 13 t d = iblk m c 13 t :=
  before0_13_of m (dats m 0 c) (A_eq m c 13) (after_13 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t))

/-- The body runs at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [show (dats m 0 c).Φ t.castSucc = Pipeline.ΦA spec0 c from rfl]
  unfold Pipeline.ΦA
  rw [scopedRest0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [HS0]; · iexact HS0
  isplitl [HS1]; · iexact HS1
  iintro ⟨H0, H1, H2, H3, H4, H5, H6, H7, H8, H9, H10, H11, H12, H13, H14, H15, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: it terminates, the arrays are what the proof data says, and every counter is zero at the end. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The program's run, without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end unchanged and every counter is zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Mixers

end
-- ==== Proof.Attn.Soft.lean ====
module

public import Idealize.ShloMosaic.Lib.Pointwise
public import Idealize.ShloMosaic.Lib.FinSumWindow

@[expose] public section

noncomputable section

namespace Cert.Attn

open Idealize.ShloMosaic

/-- The largest score of a row, −∞ of none. -/
def top {n : ℕ} (s : Fin n → EReal) : EReal := Finset.univ.fold max (Ideal.ofBits .f32 0xFF800000#32) s

/-- It is the least upper bound of the scores. -/
theorem top_eq {n : ℕ} (s : Fin n → EReal) : top s = Finset.univ.sup s := by
  have h : Ideal.ofBits .f32 0xFF800000#32 = ⊥ := by simp [Ideal.ofBits, Ideal.ieee]
  unfold top
  rw [h]
  rfl

/-- The weights of a row before their division. -/
def wts {n : ℕ} (s : Fin n → EReal) (k : Fin n) : EReal := Ideal.exp (s k - top s)

/-- Their sum. -/
def den {n : ℕ} (s : Fin n → EReal) : EReal := ∑ k, wts s k

/-- A row of values averaged, divided after the sum. -/
def late {n : ℕ} (s : Fin n → EReal) (v : Fin n → Fin 128 → EReal) (d : Fin 128) : EReal :=
  Ideal.div (∑ k, wts s k * v k d) (den s)

/-- A row of values averaged, each weight divided before the sum. -/
def early {n : ℕ} (s : Fin n → EReal) (v : Fin n → Fin 128 → EReal) (d : Fin 128) : EReal :=
  ∑ k, Ideal.div (wts s k) (den s) * v k d

/-- A head divided by its root mean square and multiplied by a gain. -/
def norm (o : Fin 128 → EReal) (g : Fin 128 → EReal) (d : Fin 128) : EReal :=
  o d * Ideal.rsqrt (Ideal.div (∑ l, o l * o l) (Ideal.ofBits .f32 0x43000000#32) + Ideal.ofBits .f32 0x358637BD#32) * g d

/-- An exponential is not negative. -/
theorem exp_nonneg (x : EReal) : 0 ≤ Ideal.exp x := by
  induction x with
  | bot => exact le_refl _
  | top => exact le_top
  | coe r => exact EReal.coe_nonneg.2 (Real.exp_pos r).le

/-- The sum of the weights is not negative. -/
theorem den_nonneg {n : ℕ} (s : Fin n → EReal) : 0 ≤ den s := Finset.sum_nonneg fun _ _ => exp_nonneg _

/-- A factor that is neither negative nor infinite goes into a sum. -/
theorem sum_mul {n : ℕ} (f : Fin n → EReal) (x : EReal) (h0 : 0 ≤ x) (ht : x ≠ ⊤) : (∑ k, f k) * x = ∑ k, f k * x := by
  induction (Finset.univ : Finset (Fin n)) using Finset.induction_on with
  | empty => simp
  | insert a t ha ih => rw [Finset.sum_insert ha, Finset.sum_insert ha, EReal.right_distrib_of_nonneg_of_ne_top h0 ht, ih]

/-- Where the weights' sum is not zero, dividing before the sum is dividing after it. -/
theorem early_eq_late {n : ℕ} (s : Fin n → EReal) (v : Fin n → Fin 128 → EReal) (h : den s ≠ 0) : early s v = late s v := by
  funext d
  have hp : 0 < den s := lt_of_le_of_ne (den_nonneg s) (Ne.symm h)
  unfold early late Ideal.div
  simp only [if_neg h]
  rw [sum_mul _ _ (EReal.inv_nonneg_of_nonneg hp.le) (EReal.inv_lt_top _).ne]
  exact Finset.sum_congr rfl fun k _ => by rw [mul_assoc, mul_comm (den s)⁻¹, ← mul_assoc]

/-- An entry with no finite part but zero. -/
def Odd (x : EReal) : Prop := x = 0 ∨ x = ⊤ ∨ x = ⊥

/-- A sum of such entries is one. -/
theorem odd_sum {n : ℕ} (f : Fin n → EReal) (h : ∀ k, Odd (f k)) : Odd (∑ k, f k) := by
  induction (Finset.univ : Finset (Fin n)) using Finset.induction_on with
  | empty => exact Or.inl (by simp)
  | insert a t ha ih =>
    rw [Finset.sum_insert ha]
    rcases h a with e | e | e <;> rcases ih with i | i | i <;> rw [e, i] <;> simp [Odd]

/-- −∞ times anything is such an entry. -/
theorem odd_bot_mul (x : EReal) : Odd (⊥ * x) := by
  rcases lt_trichotomy x 0 with h | h | h
  · exact Or.inr (Or.inl (EReal.bot_mul_of_neg h))
  · exact Or.inl (by rw [h, mul_zero])
  · exact Or.inr (Or.inr (EReal.bot_mul_of_pos h))

/-- The width of a head, as a literal. -/
theorem width : Ideal.ofBits .f32 0x43000000#32 = ((128 : ℝ) : EReal) := by
  simp [Ideal.ofBits, Ideal.ieee, -EReal.coe_mul]; norm_num

/-- The norm's constant is not −∞. -/
theorem eps_ne_bot : Ideal.ofBits .f32 0x358637BD#32 ≠ ⊥ := by
  simp [Ideal.ofBits, Ideal.ieee, -EReal.coe_mul]

/-- A head of such entries is normalised to zero. -/
theorem norm_odd (o g : Fin 128 → EReal) (h : ∀ d, Odd (o d)) (d : Fin 128) : norm o g d = 0 := by
  unfold norm
  by_cases hz : o d = 0
  · rw [hz, zero_mul, zero_mul]
  have hs : ∑ l, o l * o l = ⊤ := by
    have hn : ∀ l, 0 ≤ o l * o l := fun l => by rcases h l with e | e | e <;> rw [e] <;> simp
    refine top_le_iff.1 (le_trans ?_ (Finset.single_le_sum (fun l _ => hn l) (Finset.mem_univ d)))
    rcases h d with e | e | e
    · exact absurd e hz
    · rw [e]; simp
    · rw [e]; simp
  have hd : Ideal.div ⊤ (Ideal.ofBits .f32 0x43000000#32) = ⊤ := by
    rw [width]
    unfold Ideal.div
    rw [if_neg (by norm_num), ← EReal.coe_inv]
    exact EReal.top_mul_of_pos (by exact_mod_cast (by norm_num : (0 : ℝ) < (128 : ℝ)⁻¹))
  rw [hs, hd, EReal.top_add_of_ne_bot eps_ne_bot]
  show o d * 0 * g d = 0
  rw [mul_zero, zero_mul]

/-- Where every weight is zero, both averages are normalised to zero. -/
theorem norm_den_zero {n : ℕ} (s : Fin n → EReal) (v : Fin n → Fin 128 → EReal) (g : Fin 128 → EReal) (d : Fin 128) (h : den s = 0) :
    norm (early s v) g d = 0 ∧ norm (late s v) g d = 0 := by
  have hw : ∀ k, wts s k = 0 := fun k =>
    (Finset.sum_eq_zero_iff_of_nonneg (fun k _ => exp_nonneg _)).1 h k (Finset.mem_univ k)
  have h0 : Ideal.div 0 0 = ⊥ := by simp [Ideal.div]
  constructor
  · refine norm_odd _ _ (fun e => odd_sum _ fun k => ?_) d
    rw [hw, h, h0]
    exact odd_bot_mul _
  · refine norm_odd _ _ (fun e => Or.inr (Or.inr ?_)) d
    unfold late
    rw [h, Finset.sum_eq_zero (fun k _ => by rw [hw, zero_mul]), h0]

/-- Dividing before or after the sum gives the same normalised head. -/
theorem norm_early {n : ℕ} (s : Fin n → EReal) (v : Fin n → Fin 128 → EReal) (g : Fin 128 → EReal) (d : Fin 128) :
    norm (early s v) g d = norm (late s v) g d := by
  by_cases h : den s = 0
  · rw [(norm_den_zero s v g d h).1, (norm_den_zero s v g d h).2]
  · rw [early_eq_late s v h]

section Window

variable (s : Fin 2048 → EReal) (lo : ℕ) (hlo : lo + 768 ≤ 2048)
  (hs : ∀ k : Fin 2048, ¬(lo ≤ k.val ∧ k.val < lo + 768) → s k = ⊥)

include hs in
/-- Scores of −∞ outside a window leave the largest score where it is. -/
theorem top_window : top s = top fun p : Fin 768 => s ⟨lo + p.val, by omega⟩ := by
  rw [top_eq, top_eq]
  refine le_antisymm (Finset.sup_le fun k _ => ?_) (Finset.sup_le fun p _ => Finset.le_sup (f := s) (Finset.mem_univ _))
  by_cases h : lo ≤ k.val ∧ k.val < lo + 768
  · refine le_trans (le_of_eq ?_) (Finset.le_sup (f := fun p : Fin 768 => s ⟨lo + p.val, by omega⟩) (Finset.mem_univ ⟨k.val - lo, by omega⟩))
    exact congrArg s (Fin.ext (by show k.val = lo + (k.val - lo); omega))
  · rw [hs k h]
    exact bot_le

include hs in
/-- Outside the window a weight is zero. -/
theorem wts_out (k : Fin 2048) (h : ¬(lo ≤ k.val ∧ k.val < lo + 768)) : wts s k = 0 := by
  unfold wts
  rw [hs k h, EReal.bot_sub, Ideal.exp_bot]

include hs in
/-- Inside it is the window's own. -/
theorem wts_in (p : Fin 768) : wts s ⟨lo + p.val, by omega⟩ = wts (fun p : Fin 768 => s ⟨lo + p.val, by omega⟩) p := by
  unfold wts
  rw [top_window s lo hlo hs]

include hs in
/-- The whole row's average is the window's. -/
theorem late_window (v : Fin 2048 → Fin 128 → EReal) :
    late s v = late (fun p : Fin 768 => s ⟨lo + p.val, by omega⟩) fun p => v ⟨lo + p.val, by omega⟩ := by
  funext d
  unfold late den
  rw [FinSumWindow.sum_window lo hlo (fun k => wts s k * v k d) (fun k h => by rw [wts_out s lo hs k h, zero_mul]),
    FinSumWindow.sum_window lo hlo (fun k => wts s k) (fun k h => wts_out s lo hs k h)]
  simp only [wts_in s lo hlo hs]

end Window

end Cert.Attn
-- ==== Proof.Attn.Head.lean ====
module

public import proofs.«01_k».proof.Proof.Mixers.Frame
public import proofs.«01_k».proof.Proof.Attn.Soft
public import Idealize.ShloMosaic.Lib.Pipeline.ValueKit
public import Idealize.ShloMosaic.Lib.Pointwise

@[expose] public section

set_option maxRecDepth 16384
set_option maxHeartbeats 1600000

noncomputable section

namespace Cert.Mixers

open Cert.KernelIdeal Cert.KernelIdeal.Gen Cert.Attn
open Idealize.ShloMosaic Idealize.ShloMosaic.TcCoe Idealize.SL.Sem

/-- The scores of a point's query row over its window of keys. -/
def scores (q : Vec Ideal S1x1x256x128 .bf16) (k : Vec Ideal S1x1x768x128 .bf16) (b : Vec Ideal S1x1x256x768 .f32) (r : Fin 256) (p : Fin 768) : EReal :=
  (∑ d : Fin 128, (show EReal from q (ix4 0 0 r d)) * (show EReal from k (ix4 0 0 p d))) * Ideal.ofBits .f32 0x3DB504F3#32 + (show EReal from b (ix4 0 0 r p))

/-- A head of a point's block, from its own columns of the loads. -/
def headOut (q : Vec Ideal S1x1x256x128 .bf16) (k v : Vec Ideal S1x1x768x128 .bf16) (b : Vec Ideal S1x1x256x768 .f32)
    (g : Vec Ideal S1x128 .f32) (r : Fin 256) (d : Fin 128) : EReal :=
  norm (late (scores q k b r) fun p e => v (ix4 0 0 p e)) (fun e => g (ix2 0 e)) d

/-- Each of the eight heads' stored value is that head, however its terms are cut. -/
theorem heads_at (k v : Vec Ideal S1x1x768x128 .bf16) (q : Vec Ideal S1x1x256x128 .bf16) (b : Vec Ideal S1x1x256x768 .f32)
    (g : Vec Ideal S1x128 .f32) (r : Fin 256) (d : Fin 128) :
    k0_pay134 (k0_pay132 v) (k0_pay133 k q) b g (ix3 (n0 := 1) 0 r d) = headOut q k v b g r d
    ∧ k0_pay137 (k0_pay135 k) (k0_pay136 v) q b g (ix3 (n0 := 1) 0 r d) = headOut q k v b g r d
    ∧ k0_pay139 (k0_pay138 k v q b g) (ix3 (n0 := 1) 0 r d) = headOut q k v b g r d
    ∧ k0_pay142 (k0_pay140 k v q b) (k0_pay141 k v q b) g (ix3 (n0 := 1) 0 r d) = headOut q k v b g r d
    ∧ k0_pay146 (k0_pay144 k v q b) (k0_pay145 k q b) g (ix3 (n0 := 1) 0 r d) = headOut q k v b g r d
    ∧ k0_pay150 (k0_pay147 v) (k0_pay148 k q b) (k0_pay149 k q b) g (ix3 (n0 := 1) 0 r d) = headOut q k v b g r d
    ∧ k0_pay153 (k0_pay151 v) (k0_pay152 k q) (FloatOps.ofBits .f32 1035273459#32) b g (ix3 (n0 := 1) 0 r d) = headOut q k v b g r d
    ∧ k0_pay155 (k0_pay154 k) v q b g (ix3 (n0 := 1) 0 r d) = headOut q k v b g r d := by
  refine ⟨?_, ?_, ?_, ?_, ?_, ?_, ?_, ?_⟩ <;>
    (pointwise [k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155]; rfl)

/-- An entry of a point's block of the attention, from the point's blocks of the queries, keys, values, biases and gains:
    the keys are those from `lo` on. -/
def blockOut (x0 : Vec Ideal S1x1x256x1024 .bf16) (x1 x2 : Vec Ideal S1x1x2048x1024 .bf16) (x3 : Vec Ideal S1x8x256x768 .f32)
    (x4 : Vec Ideal S1x1024 .f32) (lo : Fin 1281) (r : Fin 256) (h : Fin 8) (d : Fin 128) : EReal :=
  norm (late (fun p : Fin 768 => (∑ e : Fin 128, (show EReal from x0 (ix4 0 0 r ⟨h.val * 128 + e.val, by omega⟩))
        * (show EReal from x1 (ix4 0 0 ⟨lo.val + p.val, by omega⟩ ⟨h.val * 128 + e.val, by omega⟩))) * Ideal.ofBits .f32 0x3DB504F3#32
      + (show EReal from x3 (ix4 0 h r p))) fun p e => (show EReal from x2 (ix4 0 0 ⟨lo.val + p.val, by omega⟩ ⟨h.val * 128 + e.val, by omega⟩)))
    (fun e => (show EReal from x4 (ix2 0 ⟨h.val * 128 + e.val, by omega⟩))) d

/-- A head of the loads at its offsets is the head of the blocks. -/
theorem headOut_ld (x0 : Vec Ideal S1x1x256x1024 .bf16) (x1 x2 : Vec Ideal S1x1x2048x1024 .bf16) (x3 : Vec Ideal S1x8x256x768 .f32)
    (x4 : Vec Ideal S1x1024 .f32) (lo : Fin 1281) (h : Fin 8) (oq ok ob : Fin 4 → ℕ) (og : Fin 2 → ℕ) (iq ik ib ig) (r : Fin 256) (d : Fin 128)
    (eq : oq = ![0, 0, 0, h.val * 128]) (ek : ok = ![0, 0, lo.val, h.val * 128]) (eb : ob = ![0, h.val, 0, 0]) (eg : og = ![0, h.val * 128]) :
    headOut (View.ld x0 (Rect.unit (s := S1x1x256x1024) oq ![1, 1, 256, 128] iq)) (View.ld x1 (Rect.unit (s := S1x1x2048x1024) ok ![1, 1, 768, 128] ik))
      (View.ld x2 (Rect.unit (s := S1x1x2048x1024) ok ![1, 1, 768, 128] ik)) (View.ld x3 (Rect.unit (s := S1x8x256x768) ob ![1, 1, 256, 768] ib))
      (View.ld x4 (Rect.unit (s := S1x1024) og ![1, 128] ig)) r d = blockOut x0 x1 x2 x3 x4 lo r h d := by
  subst eq ek eb eg
  have i0 : ∀ e : Fin 128, View.ld x0 (Rect.unit (s := S1x1x256x1024) ![0, 0, 0, h.val * 128] ![1, 1, 256, 128] iq) (ix4 0 0 r e) = x0 (ix4 0 0 r ⟨h.val * 128 + e.val, by omega⟩) := fun e =>
    congrArg x0 (by funext a; fin_cases a <;> exact Fin.ext (by simp [LoadRect.idx]))
  have i1 : ∀ (x : Vec Ideal S1x1x2048x1024 .bf16) (p : Fin 768) (e : Fin 128), View.ld x (Rect.unit (s := S1x1x2048x1024) ![0, 0, lo.val, h.val * 128] ![1, 1, 768, 128] ik) (ix4 0 0 p e) = x (ix4 0 0 ⟨lo.val + p.val, by omega⟩ ⟨h.val * 128 + e.val, by omega⟩) := fun x p e =>
    congrArg x (by funext a; fin_cases a <;> exact Fin.ext (by simp [LoadRect.idx]))
  have i3 : ∀ p : Fin 768, View.ld x3 (Rect.unit (s := S1x8x256x768) ![0, h.val, 0, 0] ![1, 1, 256, 768] ib) (ix4 0 0 r p) = x3 (ix4 0 h r p) := fun p =>
    congrArg x3 (by funext a; fin_cases a <;> exact Fin.ext (by simp [LoadRect.idx]))
  have i4 : ∀ e : Fin 128, View.ld x4 (Rect.unit (s := S1x1024) ![0, h.val * 128] ![1, 128] ig) (ix2 0 e) = x4 (ix2 0 ⟨h.val * 128 + e.val, by omega⟩) := fun e =>
    congrArg x4 (by funext a; fin_cases a <;> exact Fin.ext (by simp [LoadRect.idx]))
  unfold headOut blockOut
  refine congrArg₂ (fun p q => norm p q d) (congrArg₂ late (funext fun p => ?_) (funext fun p => funext fun e => i1 x2 p e)) (funext i4)
  unfold scores
  exact congrArg₂ _ (congrArg (· * _) (Finset.sum_congr rfl fun e _ => congrArg₂ _ (i0 e) (i1 x1 p e))) (i3 p)

/-- An index of a head's tile, by its coordinates. -/
theorem tile_ext (y : S1x256x128.Idx) (r : Fin 256) (d : Fin 128) (h1 : (y 1).val = r.val) (h2 : (y 2).val = d.val) : y = ix3 0 r d := by
  funext a
  fin_cases a
  · exact Subsingleton.elim (α := Fin 1) _ _
  · exact Fin.ext h1
  · exact Fin.ext h2

variable (m : (ℓ : Loc nD τ sig) → Buf (Elt Ideal) ℓ)

/-- Where the window of keys begins at a point. -/
def lo (t : Fin cfg0.N) : Fin 1281 := ⟨256 * (t.val % 8 - 2), by omega⟩

/-- The loads' offsets are that beginning and the head's columns. -/
theorem offs : ∀ t : Fin cfg0.N, k0_off3 (grid0.coords t) = ![0, 0, (lo t).val, 0] ∧ k0_off4 (grid0.coords t) = ![0, 0, (lo t).val, 128]
    ∧ k0_off5 (grid0.coords t) = ![0, 0, (lo t).val, 256] ∧ k0_off6 (grid0.coords t) = ![0, 0, (lo t).val, 384]
    ∧ k0_off7 (grid0.coords t) = ![0, 0, (lo t).val, 512] ∧ k0_off8 (grid0.coords t) = ![0, 0, (lo t).val, 640]
    ∧ k0_off9 (grid0.coords t) = ![0, 0, (lo t).val, 768] ∧ k0_off10 (grid0.coords t) = ![0, 0, (lo t).val, 896] :=
  (by decide +kernel : ∀ t : Fin grid0.N, _)

/-- What a point stores of the attention. -/
theorem leftA_at (c : Dev nD) (t : Fin cfg0.N) (r : Fin 256) (h : Fin 8) (d : Fin 128) :
    leftA m c t (ix3 0 r ⟨h.val * 128 + d.val, by omega⟩)
      = blockOut (iblk m c 0 t) (iblk m c 1 t) (iblk m c 2 t) (iblk m c 3 t) (iblk m c 4 t) (lo t) r h d := by
  obtain ⟨o0, o1, o2, o3, o4, o5, o6, o7⟩ := offs t
  unfold leftA runAt bodyRun
  dsimp only
  rw [View.read_writes_junk_eq_canon]
  unfold bodyRun.sl.H16_8
  frame_out
  generalize hy : (ix3 0 r ⟨h.val * 128 + d.val, by omega⟩ : S1x256x1024.Idx) = y
  have hy1 : (y 1).val = r.val := by rw [← hy]; rfl
  have hy2 : (y 2).val = h.val * 128 + d.val := by rw [← hy]; rfl
  clear hy
  canon_tiles y e
  · obtain rfl : h = 7 := Fin.ext (by show h.val = 7; omega)
    obtain rfl := tile_ext y r d (by omega) (by omega)
    exact (heads_at _ _ _ _ _ r d).2.2.2.2.2.2.2.trans (headOut_ld (eq := rfl) (ek := o7) (eb := rfl) (eg := rfl) ..)
  · obtain rfl : h = 6 := Fin.ext (by show h.val = 6; omega)
    obtain rfl := tile_ext y r d (by omega) (by omega)
    exact (heads_at _ _ _ _ _ r d).2.2.2.2.2.2.1.trans (headOut_ld (eq := rfl) (ek := o6) (eb := rfl) (eg := rfl) ..)
  · obtain rfl : h = 5 := Fin.ext (by show h.val = 5; omega)
    obtain rfl := tile_ext y r d (by omega) (by omega)
    exact (heads_at _ _ _ _ _ r d).2.2.2.2.2.1.trans (headOut_ld (eq := rfl) (ek := o5) (eb := rfl) (eg := rfl) ..)
  · obtain rfl : h = 4 := Fin.ext (by show h.val = 4; omega)
    obtain rfl := tile_ext y r d (by omega) (by omega)
    exact (heads_at _ _ _ _ _ r d).2.2.2.2.1.trans (headOut_ld (eq := rfl) (ek := o4) (eb := rfl) (eg := rfl) ..)
  · obtain rfl : h = 3 := Fin.ext (by show h.val = 3; omega)
    obtain rfl := tile_ext y r d (by omega) (by omega)
    exact (heads_at _ _ _ _ _ r d).2.2.2.1.trans (headOut_ld (eq := rfl) (ek := o3) (eb := rfl) (eg := rfl) ..)
  · obtain rfl : h = 2 := Fin.ext (by show h.val = 2; omega)
    obtain rfl := tile_ext y r d (by omega) (by omega)
    exact (heads_at _ _ _ _ _ r d).2.2.1.trans (headOut_ld (eq := rfl) (ek := o2) (eb := rfl) (eg := rfl) ..)
  · obtain rfl : h = 1 := Fin.ext (by show h.val = 1; omega)
    obtain rfl := tile_ext y r d (by omega) (by omega)
    exact (heads_at _ _ _ _ _ r d).2.1.trans (headOut_ld (eq := rfl) (ek := o1) (eb := rfl) (eg := rfl) ..)
  · obtain rfl : h = 0 := Fin.ext (by show h.val = 0; omega)
    obtain rfl := tile_ext y r d (by omega) (by omega)
    exact (heads_at _ _ _ _ _ r d).1.trans (headOut_ld (eq := rfl) (ek := o0) (eb := rfl) (eg := rfl) ..)

end Cert.Mixers
-- ==== Proof.Attn.Table.lean ====
module

public import proofs.«01_k».proof.Proof.Mixers.Frame
public import Idealize.ShloMosaic.Lib.Pipeline.ValueKit
public import Idealize.ShloMosaic.Lib.Pointwise
public import Idealize.ShloMosaic.Lib.StableHlo.ReadAt

@[expose] public section

set_option maxRecDepth 16384
set_option maxHeartbeats 1600000

noncomputable section

namespace Cert.Mixers

open Cert.KernelIdeal Cert.KernelIdeal.Gen
open Idealize.ShloMosaic Idealize.ShloMosaic.TcCoe Idealize.SL.Sem

variable (m : (ℓ : Loc nD τ sig) → Buf (Elt Ideal) ℓ)

/-- The chunk of a position, in words. -/
def chunkW (x : BitVec 32) : BitVec 32 :=
  Scalar.select (IntOp.andi (IntOp.cmpi CmpIPredicate.ne (if x = 0 then (0 : BitVec 32) else if x.msb = true then -1 else 1)
      (if (64#32 : BitVec 32) = 0 then (0 : BitVec 32) else if BitVec.msb 64#32 = true then -1 else 1)) (IntOp.cmpi CmpIPredicate.ne (IntOp.remsi ArithUnit.host x 64#32) 0#32))
    (IntOp.subi (IntOp.divsi ArithUnit.host x 64#32) 1#32) (IntOp.divsi ArithUnit.host x 64#32)

/-- It is the position over the chunk's length. -/
theorem chunkW_at : ∀ p : Fin 768, chunkW (BitVec.ofNat 32 p.val) = BitVec.ofNat 32 (p.val / 64) := by decide +kernel

/-- Which keys of its window a query sees, in words. -/
def maskW (o : BitVec 32) (r p : BitVec 32) : BitVec 1 :=
  IntOp.andi (IntOp.cmpi CmpIPredicate.sge p (IntOp.addi (IntOp.subi r 8#32) o)) (IntOp.cmpi CmpIPredicate.sle p (IntOp.addi r o))

/-- They are those of its chunk and of the eight before it. -/
theorem maskW_at : ∀ (o : Fin 3) (r : Fin 4) (p : Fin 12), maskW (BitVec.ofNat 32 (4 * o.val)) (BitVec.ofNat 32 r.val) (BitVec.ofNat 32 p.val) = 1#1
    ↔ r.val + 4 * o.val ≤ p.val + 8 ∧ p.val ≤ r.val + 4 * o.val := by decide +kernel

/-- Choosing by that word. -/
theorem mask_select (o : Fin 3) (r : Fin 256) (p : Fin 768) (x y : EReal) :
    Scalar.select (maskW (BitVec.ofNat 32 (4 * o.val)) (chunkW (BitVec.ofNat 32 r.val)) (chunkW (BitVec.ofNat 32 p.val))) x y
      = if r.val / 64 + 4 * o.val ≤ p.val / 64 + 8 ∧ p.val / 64 ≤ r.val / 64 + 4 * o.val then x else y := by
  rw [chunkW_at p, chunkW_at ⟨r.val, by omega⟩]
  exact if_congr (maskW_at o ⟨r.val / 64, by omega⟩ ⟨p.val / 64, by omega⟩) rfl rfl

/-- An entry of the table of biases. -/
theorem table_at (c : Dev nD) (o : Fin 3) (h : Fin 8) (r : Fin 256) (p : Fin 768) (j : Fin 257)
    (hj : j.val = min (max (256 * o.val + r.val + 1152 - p.val) 1024) 1280 - 1024) :
    (V m c main_v163 : FVec Ideal S3x8x256x768 .f32) (ix4 o h r p)
      = if r.val / 64 + 4 * o.val ≤ p.val / 64 + 8 ∧ p.val / 64 ≤ r.val / 64 + 4 * o.val
        then (m ((c : Thread nD τ).loc main_arg1) : FVec Ideal S8x257 .f32) (ix2 h j) else Ideal.ofBits .f32 0xFF800000#32 := by
  have hm := mask_select o r p
  unfold V
  have ho : o = 0 ∨ o = 1 ∨ o = 2 := by omega
  rcases ho with rfl | rfl | rfl <;>
  · after_reads_at
    simp only [StableHlo.unary_result']
    after_reads_at
    refine (hm _ _).trans ?_
    refine if_congr (by simp only [Fin.isValue, Fin.val_zero, Fin.val_one, Fin.val_two]; omega) ?_ rfl
    simp only [Fin.isValue, Fin.val_zero, Fin.val_one, Fin.val_two] at hj
    clear hm
    split <;>
    · after_reads_at
      simp (decide := true) only [if_true, if_false, Fin.val_rev]
      split_ifs <;>
      · after_reads_at
        try simp only [Fin.val_rev]
        (try split_ifs) <;>
        exact congrArg (m ((c : Thread nD τ).loc main_arg1)) (congrArg (ix2 h) (Fin.ext
          (by first | omega | (dsimp only <;> omega) | (show (0 : ℕ) = j.val; omega) | (show (256 : ℕ) = j.val; omega))))

end Cert.Mixers
-- ==== Proof.Attn.Ref.lean ====
module

public import proofs.«01_k».proof.Proof.Gen.ReferenceIdeal.Run
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value

/-- The queries, by heads. -/
def HQ (P : FVec Ideal S7x16384x1024 .bf16) : FVec Ideal S8x8x2048x128 .f32 :=
  (transpose S8x8x2048x128 [0, 2, 1, 3] (shapeCast _ (shapeCast _ (extf .f32 (shapeCast _ (extractStridedSlice S1x16384x1024 ![0, 0, 0] P slices_S7x16384x1024_S1x16384x1024_0_0_0) shapeCasts_S1x16384x1024_S16384x1024) bitsLt_bf16_f32) shapeCasts_S16384x1024_S8x2048x1024) shapeCasts_S8x2048x1024_S8x2048x8x128) transposes_S8x2048x8x128_S8x8x2048x128_0_2_1_3)

/-- The keys, by heads. -/
def HK (P : FVec Ideal S7x16384x1024 .bf16) : FVec Ideal S8x8x2048x128 .f32 :=
  (transpose S8x8x2048x128 [0, 2, 1, 3] (shapeCast _ (shapeCast _ (extf .f32 (shapeCast _ (extractStridedSlice S1x16384x1024 ![1, 0, 0] P slices_S7x16384x1024_S1x16384x1024_1_0_0) shapeCasts_S1x16384x1024_S16384x1024) bitsLt_bf16_f32) shapeCasts_S16384x1024_S8x2048x1024) shapeCasts_S8x2048x1024_S8x2048x8x128) transposes_S8x2048x8x128_S8x8x2048x128_0_2_1_3)

/-- The values, by heads. -/
def HV (P : FVec Ideal S7x16384x1024 .bf16) : FVec Ideal S8x8x2048x128 .f32 :=
  (transpose S8x8x2048x128 [0, 2, 1, 3] (shapeCast _ (shapeCast _ (extf .f32 (shapeCast _ (extractStridedSlice S1x16384x1024 ![2, 0, 0] P slices_S7x16384x1024_S1x16384x1024_2_0_0) shapeCasts_S1x16384x1024_S16384x1024) bitsLt_bf16_f32) shapeCasts_S16384x1024_S8x2048x1024) shapeCasts_S8x2048x1024_S8x2048x8x128) transposes_S8x2048x8x128_S8x8x2048x128_0_2_1_3)

/-- The chunk of a query. -/
def CHQ : IVec S2048x1 32 :=
  (select (andi (cmpi .ne (signi (broadcastInDim S2048x1 ![0] bcast_S2048_S2048x1_0 (iotaInDim S2048 32 0))) (broadcastInDim S2048x1 ![] bcast_S_S2048x1 (signi (id (constantI S_ 32 64#32))))) (cmpi .ne (Host.remsi (broadcastInDim S2048x1 ![0] bcast_S2048_S2048x1_0 (iotaInDim S2048 32 0)) (broadcastInDim S2048x1 ![] bcast_S_S2048x1 (id (constantI S_ 32 64#32)))) (broadcastInDim S2048x1 ![] bcast_S_S2048x1 (constantI S_ 32 0#32)))) (subi (Host.divsi (broadcastInDim S2048x1 ![0] bcast_S2048_S2048x1_0 (iotaInDim S2048 32 0)) (broadcastInDim S2048x1 ![] bcast_S_S2048x1 (id (constantI S_ 32 64#32)))) (broadcastInDim S2048x1 ![] bcast_S_S2048x1 (constantI S_ 32 1#32))) (Host.divsi (broadcastInDim S2048x1 ![0] bcast_S2048_S2048x1_0 (iotaInDim S2048 32 0)) (broadcastInDim S2048x1 ![] bcast_S_S2048x1 (id (constantI S_ 32 64#32)))))

/-- The chunk of a key. -/
def CHK : IVec S1x2048 32 :=
  (select (andi (cmpi .ne (signi (broadcastInDim S1x2048 ![1] bcast_S2048_S1x2048_1 (iotaInDim S2048 32 0))) (broadcastInDim S1x2048 ![] bcast_S_S1x2048 (signi (id (constantI S_ 32 64#32))))) (cmpi .ne (Host.remsi (broadcastInDim S1x2048 ![1] bcast_S2048_S1x2048_1 (iotaInDim S2048 32 0)) (broadcastInDim S1x2048 ![] bcast_S_S1x2048 (id (constantI S_ 32 64#32)))) (broadcastInDim S1x2048 ![] bcast_S_S1x2048 (constantI S_ 32 0#32)))) (subi (Host.divsi (broadcastInDim S1x2048 ![1] bcast_S2048_S1x2048_1 (iotaInDim S2048 32 0)) (broadcastInDim S1x2048 ![] bcast_S_S1x2048 (id (constantI S_ 32 64#32)))) (broadcastInDim S1x2048 ![] bcast_S_S1x2048 (constantI S_ 32 1#32))) (Host.divsi (broadcastInDim S1x2048 ![1] bcast_S2048_S1x2048_1 (iotaInDim S2048 32 0)) (broadcastInDim S1x2048 ![] bcast_S_S1x2048 (id (constantI S_ 32 64#32)))))

/-- Which keys a query sees, from the two chunks. -/
def SEEN (a : IVec S2048x1 32) (b : IVec S1x2048 32) : IVec S2048x2048 1 :=
  (andi (cmpi .sge (subi (broadcastInDim S2048x2048 ![0, 1] bcast_S2048x1_S2048x2048_0_1 a) (broadcastInDim S2048x2048 ![0, 1] bcast_S1x2048_S2048x2048_0_1 b)) (broadcastInDim S2048x2048 ![] bcast_S_S2048x2048 (constantI S_ 32 0#32))) (cmpi .sle (subi (broadcastInDim S2048x2048 ![0, 1] bcast_S2048x1_S2048x2048_0_1 a) (broadcastInDim S2048x2048 ![0, 1] bcast_S1x2048_S2048x2048_0_1 b)) (broadcastInDim S2048x2048 ![] bcast_S_S2048x2048 (constantI S_ 32 8#32))))

/-- The column of the bias of a query and a key. -/
def REL : IVec S2048x2048 32 :=
  (select (cmpi .slt (addi (minsi (broadcastInDim S2048x2048 ![] bcast_S_S2048x2048 (id (constantI S_ 32 128#32))) (maxsi (broadcastInDim S2048x2048 ![] bcast_S_S2048x2048 (id (constantI S_ 32 4294967168#32))) (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))) (broadcastInDim S2048x2048 ![] bcast_S_S2048x2048 (constantI S_ 32 128#32))) (broadcastInDim S2048x2048 ![] bcast_S_S2048x2048 (constantI S_ 32 0#32))) (addi (addi (minsi (broadcastInDim S2048x2048 ![] bcast_S_S2048x2048 (id (constantI S_ 32 128#32))) (maxsi (broadcastInDim S2048x2048 ![] bcast_S_S2048x2048 (id (constantI S_ 32 4294967168#32))) (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))) (broadcastInDim S2048x2048 ![] bcast_S_S2048x2048 (constantI S_ 32 128#32))) (broadcastInDim S2048x2048 ![] bcast_S_S2048x2048 (constantI S_ 32 257#32))) (addi (minsi (broadcastInDim S2048x2048 ![] bcast_S_S2048x2048 (id (constantI S_ 32 128#32))) (maxsi (broadcastInDim S2048x2048 ![] bcast_S_S2048x2048 (id (constantI S_ 32 4294967168#32))) (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))) (broadcastInDim S2048x2048 ![] bcast_S_S2048x2048 (constantI S_ 32 128#32))))

/-- The bias of a query and a key. -/
def BIAS (B : FVec Ideal S8x257 .f32) (r : IVec S2048x2048 32) : FVec Ideal S8x2048x2048 .f32 :=
  (Host.gather gather_S8x257_S2048x2048x1_S8x2048x2048_0_1_n_n_1_2_81 B (broadcastInDim S2048x2048x1 ![0, 1] bcast_S2048x2048_S2048x2048x1_0_1 r))

/-- The scores. -/
def SC (Q K : FVec Ideal S8x8x2048x128 .f32) (b : FVec Ideal S8x2048x2048 .f32) (w : IVec S2048x2048 1) : FVec Ideal S8x8x2048x2048 .f32 :=
  (select (broadcastInDim S8x8x2048x2048 ![0, 1, 2, 3] bcast_S1x1x2048x2048_S8x8x2048x2048_0_1_2_3 (broadcastInDim S1x1x2048x2048 ![2, 3] bcast_S2048x2048_S1x1x2048x2048_2_3 w)) (addf (mulf (Host.dotGeneral dot_S8x8x2048x128_S8x8x2048x128_S8x8x2048x2048_3_3_2_2_01_01 none Q K) (broadcastInDim S8x8x2048x2048 ![] bcast_S_S8x8x2048x2048 (constant S_ .f32 0x3DB504F3#32))) (broadcastInDim S8x8x2048x2048 ![0, 1, 2, 3] bcast_S1x8x2048x2048_S8x8x2048x2048_0_1_2_3 (broadcastInDim S1x8x2048x2048 ![1, 2, 3] bcast_S8x2048x2048_S1x8x2048x2048_1_2_3 b))) (broadcastInDim S8x8x2048x2048 ![] bcast_S_S8x8x2048x2048 (id (constant S_ .f32 0xFF800000#32))))

/-- A row's largest score. -/
def RED (S : FVec Ideal S8x8x2048x2048 .f32) : FVec Ideal S8x8x2048 .f32 :=
  Host.reduce FloatOps.maximumf S (constant S_ .f32 0xFF800000#32) reducesTo_S8x8x2048x2048_S8x8x2048_d3 h_S_

/-- It, and −∞. -/
def MM (R : FVec Ideal S8x8x2048 .f32) : FVec Ideal S8x8x2048 .f32 :=
  maximumf (broadcastInDim S8x8x2048 ![] bcast_S_S8x8x2048 (constant S_ .f32 0xFF800000#32)) R

/-- The two, together. -/
def MX (S : FVec Ideal S8x8x2048x2048 .f32) : FVec Ideal S8x8x2048 .f32 := MM (RED S)

/-- A row's weights, before their division. -/
def WT (S : FVec Ideal S8x8x2048x2048 .f32) (M : FVec Ideal S8x8x2048 .f32) : FVec Ideal S8x8x2048x2048 .f32 :=
  (Host.exp (subf S (broadcastInDim S8x8x2048x2048 ![0, 1, 2, 3] bcast_S8x8x2048x1_S8x8x2048x2048_0_1_2_3 (broadcastInDim S8x8x2048x1 ![0, 1, 2] bcast_S8x8x2048_S8x8x2048x1_0_1_2 M))))

/-- A row's weights, divided by their sum. -/
def PR (E : FVec Ideal S8x8x2048x2048 .f32) : FVec Ideal S8x8x2048x2048 .f32 :=
  (Host.divf E (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd E (constant S_ .f32 0x00000000#32) reducesTo_S8x8x2048x2048_S8x8x2048_d3 h_S_))))

/-- The weighted values. -/
def AV (p : FVec Ideal S8x8x2048x2048 .f32) (V : FVec Ideal S8x8x2048x128 .f32) : FVec Ideal S8x8x2048x128 .f32 :=
  (Host.dotGeneral dot_S8x8x2048x2048_S8x8x2048x128_S8x8x2048x128_3_2_2_3_01_01 none p V)

/-- The heads normalised. -/
def NM (O : FVec Ideal S8x8x2048x128 .f32) (G : FVec Ideal S1024 .f32) : FVec Ideal S8x8x2048x128 .f32 :=
  (mulf (mulf O (broadcastInDim S8x8x2048x128 ![0, 1, 2, 3] bcast_S8x8x2048x1_S8x8x2048x128_0_1_2_3 (Host.rsqrt (addf (Host.divf (broadcastInDim S8x8x2048x1 ![0, 1, 2] bcast_S8x8x2048_S8x8x2048x1_0_1_2 (Host.reduceAdd (mulf O O) (constant S_ .f32 0x00000000#32) reducesTo_S8x8x2048x128_S8x8x2048_d3 h_S_)) (broadcastInDim S8x8x2048x1 ![] bcast_S_S8x8x2048x1 (constant S_ .f32 0x43000000#32))) (broadcastInDim S8x8x2048x1 ![] bcast_S_S8x8x2048x1 (constant S_ .f32 0x358637BD#32)))))) (broadcastInDim S8x8x2048x128 ![0, 1, 2, 3] bcast_S1x8x1x128_S8x8x2048x128_0_1_2_3 (broadcastInDim S1x8x1x128 ![1, 2, 3] bcast_S8x1x128_S1x8x1x128_1_2_3 (shapeCast _ G shapeCasts_S1024_S8x1x128))))

/-- The heads side by side. -/
def OUT (N : FVec Ideal S8x8x2048x128 .f32) : FVec Ideal S8x2048x1024 .bf16 :=
  truncf .bf16 (shapeCast _ (transpose S8x2048x8x128 [0, 2, 1, 3] N transposes_S8x8x2048x128_S8x2048x8x128_0_2_1_3) shapeCasts_S8x2048x8x128_S8x2048x1024) bitsLt_bf16_f32

/-- The reference's attention. -/
def ALL (P : FVec Ideal S7x16384x1024 .bf16) (B : FVec Ideal S8x257 .f32) (G : FVec Ideal S1024 .f32) : FVec Ideal S8x2048x1024 .bf16 :=
  OUT (NM (AV (PR (WT (SC (HQ P) (HK P) (BIAS B REL) (SEEN CHQ CHK)) (MX (SC (HQ P) (HK P) (BIAS B REL) (SEEN CHQ CHK))))) (HV P)) G)

variable (m : (ℓ : Loc nD τ sig) → Buf (Elt Ideal) ℓ)

/-- The reference's result, by these names. -/
theorem res_run (ρ : Dev nD → PrngReg) :
    θ_run defs (onTc (τ := τ) (main (F := Ideal))) ⟨m, fun _ => 0, ρ⟩ fun r => ∀ c : Dev nD,
      r.2.mem ((c.tc : Thread nD τ).loc main_v82) = ALL (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3)) :=
  run m ρ

end Cert.ReferenceIdeal.Attn
-- ==== Proof.Attn.RefAt.lean ====
module

public import proofs.«01_k».proof.Proof.Attn.Ref
public import proofs.«01_k».proof.Proof.Attn.Soft

@[expose] public section

set_option maxRecDepth 16384

noncomputable section

namespace Cert.ReferenceIdeal.Attn

open Idealize.ShloMosaic Idealize.ShloMosaic.TcCoe Idealize.SL.Sem
open Cert.Attn Cert.ReferenceIdeal Cert.ReferenceIdeal.Gen Cert.ReferenceIdeal.Value

variable (b h : Fin 8) (s k : Fin 2048) (d : Fin 128)

/-- A query's entry. -/
theorem hq_at (P : FVec Ideal S7x16384x1024 .bf16) :
    HQ P (ix4 b h s d) = P (ix3 0 ⟨b.val * 2048 + s.val, by omega⟩ ⟨h.val * 128 + d.val, by omega⟩) := by
  pointwise [HQ]

/-- A key's entry. -/
theorem hk_at (P : FVec Ideal S7x16384x1024 .bf16) :
    HK P (ix4 b h s d) = P (ix3 1 ⟨b.val * 2048 + s.val, by omega⟩ ⟨h.val * 128 + d.val, by omega⟩) := by
  pointwise [HK]

/-- A value's entry. -/
theorem hv_at (P : FVec Ideal S7x16384x1024 .bf16) :
    HV P (ix4 b h s d) = P (ix3 2 ⟨b.val * 2048 + s.val, by omega⟩ ⟨h.val * 128 + d.val, by omega⟩) := by
  pointwise [HV]

/-- A score. -/
theorem sc_at (Q K : FVec Ideal S8x8x2048x128 .f32) (B : FVec Ideal S8x2048x2048 .f32) (w : IVec S2048x2048 1) :
    SC Q K B w (ix4 b h s k) = if w (ix2 s k) = 1#1 then (∑ d : Fin 128, Q (ix4 b h s d) * K (ix4 b h k d)) * Ideal.ofBits .f32 0x3DB504F3#32 + B (ix3 h s k)
      else Ideal.ofBits .f32 0xFF800000#32 := by
  pointwise [SC]
  rfl

/-- A weight. -/
theorem wt_at (S : FVec Ideal S8x8x2048x2048 .f32) (M : FVec Ideal S8x8x2048 .f32) : WT S M (ix4 b h s k) = Ideal.exp (S (ix4 b h s k) - M (ix3 b h s)) := by
  pointwise [WT]

/-- A weight divided by its row's sum. -/
theorem pr_at (E : FVec Ideal S8x8x2048x2048 .f32) : PR E (ix4 b h s k) = Ideal.div (E (ix4 b h s k)) (∑ j : Fin 2048, E (ix4 b h s j)) := by
  pointwise [PR]

/-- A weighted value. -/
theorem av_at (p : FVec Ideal S8x8x2048x2048 .f32) (V : FVec Ideal S8x8x2048x128 .f32) : AV p V (ix4 b h s d) = ∑ j : Fin 2048, p (ix4 b h s j) * V (ix4 b h j d) := by
  pointwise [AV]

/-- A normalised head's entry. -/
theorem nm_at (O : FVec Ideal S8x8x2048x128 .f32) (G : FVec Ideal S1024 .f32) :
    NM O G (ix4 b h s d) = norm (fun e => O (ix4 b h s e)) (fun e => G (ix1 ⟨h.val * 128 + e.val, by omega⟩)) d := by
  unfold Cert.Attn.norm
  pointwise [NM]

/-- An entry of the heads side by side. -/
theorem out_at (N : FVec Ideal S8x8x2048x128 .f32) : OUT N (ix3 b s ⟨h.val * 128 + d.val, by omega⟩) = N (ix4 b h s d) := by
  pointwise [OUT]

/-- A query's chunk. -/
theorem chq_at : ∀ s : Fin 2048, CHQ (ix2 s 0) = BitVec.ofNat 32 (s.val / 64) := by decide +kernel

/-- A key's chunk. -/
theorem chk_at : ∀ k : Fin 2048, CHK (ix2 0 k) = BitVec.ofNat 32 (k.val / 64) := by decide +kernel

/-- Two chunks compared. -/
theorem chunks : ∀ a c : Fin 32, IntOp.andi (IntOp.cmpi CmpIPredicate.sge (IntOp.subi (BitVec.ofNat 32 a.val) (BitVec.ofNat 32 c.val)) 0#32)
    (IntOp.cmpi CmpIPredicate.sle (IntOp.subi (BitVec.ofNat 32 a.val) (BitVec.ofNat 32 c.val)) 8#32) = 1#1 ↔ c.val ≤ a.val ∧ a.val ≤ c.val + 8 := by
  decide +kernel

/-- Which keys a query sees: those of its own chunk and the eight before it. -/
theorem seen_at : SEEN CHQ CHK (ix2 s k) = 1#1 ↔ k.val / 64 ≤ s.val / 64 ∧ s.val / 64 ≤ k.val / 64 + 8 := by
  have e : SEEN CHQ CHK (ix2 s k) = IntOp.andi (IntOp.cmpi CmpIPredicate.sge (IntOp.subi (CHQ (ix2 s 0)) (CHK (ix2 0 k))) 0#32)
      (IntOp.cmpi CmpIPredicate.sle (IntOp.subi (CHQ (ix2 s 0)) (CHK (ix2 0 k))) 8#32) := by
    generalize CHQ = A
    generalize CHK = C
    pointwise [SEEN]
  rw [e, chq_at, chk_at]
  exact chunks ⟨s.val / 64, by omega⟩ ⟨k.val / 64, by omega⟩

/-- The column of a distance. -/
def relW (x : BitVec 32) : BitVec 32 :=
  Scalar.select (IntOp.cmpi CmpIPredicate.slt (IntOp.addi (IntOp.minsi 128#32 (IntOp.maxsi 4294967168#32 x)) 128#32) 0#32)
    (IntOp.addi (IntOp.addi (IntOp.minsi 128#32 (IntOp.maxsi 4294967168#32 x)) 128#32) 257#32)
    (IntOp.addi (IntOp.minsi 128#32 (IntOp.maxsi 4294967168#32 x)) 128#32)

/-- The column of every distance there is. -/
theorem relW_at : ∀ j : Fin 4095, (relW (IntOp.subi (BitVec.ofNat 32 j.val) 2047#32)).toInt.toNat = min (max j.val 1919) 2175 - 1919 := by
  decide +kernel

/-- The column of a query and a key: their distance, clipped. -/
theorem rel_at : (REL (ix2 s k)).toInt.toNat = min (max (s.val + 2047 - k.val) 1919) 2175 - 1919 := by
  have e : REL (ix2 s k) = relW (IntOp.subi (BitVec.ofNat 32 s.val) (BitVec.ofNat 32 k.val)) := by
    pointwise [REL]
    rfl
  have es : IntOp.subi (BitVec.ofNat 32 s.val) (BitVec.ofNat 32 k.val) = IntOp.subi (BitVec.ofNat 32 (s.val + 2047 - k.val)) 2047#32 := by
    show BitVec.ofNat 32 s.val - BitVec.ofNat 32 k.val = BitVec.ofNat 32 (s.val + 2047 - k.val) - 2047#32
    apply BitVec.eq_of_toNat_eq
    simp only [BitVec.toNat_sub, BitVec.toNat_ofNat]
    omega
  rw [e, es]
  exact relW_at ⟨s.val + 2047 - k.val, by omega⟩

/-- A bias: the head's row of the table, at the column named. -/
theorem bias_at (B : FVec Ideal S8x257 .f32) (r : IVec S2048x2048 32) (j : Fin 257) (hj : min (r (ix2 s k)).toInt.toNat 256 = j.val) :
    BIAS B r (ix3 h s k) = B (ix2 h j) := by
  unfold BIAS Host.gather
  refine congrArg B (funext fun a => Fin.ext ?_)
  show GatherDims.start _ _ _ a + GatherDims.batchCoord _ _ a + GatherDims.offCoord _ _ a = _
  rw [GatherDims.batchCoord_eq_zero _ _ _ List.not_mem_nil]
  fin_cases a
  · unfold GatherDims.start
    rw [dif_neg (by decide)]
    unfold GatherDims.offCoord
    rw [dif_pos (by decide)]
    simp only [Nat.zero_add]
    rfl
  · rw [GatherDims.offCoord_eq_zero _ _ _ (by decide)]
    unfold GatherDims.start
    rw [dif_pos (by decide)]
    refine Eq.trans ?_ hj
    refine congrArg (fun x : BitVec 32 => min x.toInt.toNat 256) (congrArg r ?_)
    funext a
    fin_cases a <;> rfl

/-- The largest entry along the last axis, at any extents. -/
theorem red_at {n0 n1 n2 n3 : ℕ} {u : Shape} (S : FVec Ideal ⟨4, ![n0, n1, n2, n3]⟩ .f32)
    (hr : (⟨4, ![n0, n1, n2, n3]⟩ : Shape).ReducesTo [3] ⟨3, ![n0, n1, n2]⟩) (hu : 0 < u.numel) (b : Fin n0) (h : Fin n1) (s : Fin n2) :
    Host.reduce FloatOps.maximumf S (constant u .f32 0xFF800000#32) hr hu (ix3 b h s) = top fun k => S (ix4 b h s k) := by
  rw [Host.reduce_eq_fold]
  unfold top
  pointwise

/-- A row's largest score. -/
theorem mx_at (S : FVec Ideal S8x8x2048x2048 .f32) : MX S (ix3 b h s) = top fun k => S (ix4 b h s k) := by
  have e : Ideal.ofBits .f32 0xFF800000#32 = ⊥ := by simp [Ideal.ofBits, Ideal.ieee]
  have f : ∀ R, MM R (ix3 b h s) = max (Ideal.ofBits .f32 0xFF800000#32) (R (ix3 b h s)) := fun R => by pointwise [MM]
  refine (f (RED S)).trans ?_
  rw [e]
  exact (max_eq_right bot_le).trans (red_at S reducesTo_S8x8x2048x2048_S8x8x2048_d3 h_S_ b h s)

/-- The reference's entry: the average over all the keys a query sees, normalised. -/
theorem all_at (P : FVec Ideal S7x16384x1024 .bf16) (B : FVec Ideal S8x257 .f32) (G : FVec Ideal S1024 .f32) (col : Fin 2048 → Fin 257)
    (hc : ∀ k : Fin 2048, (col k).val = min (max (s.val + 2047 - k.val) 1919) 2175 - 1919) :
    ALL P B G (ix3 b s ⟨h.val * 128 + d.val, by omega⟩)
      = norm (early (fun k => if k.val / 64 ≤ s.val / 64 ∧ s.val / 64 ≤ k.val / 64 + 8
          then (∑ e : Fin 128, (show EReal from P (ix3 0 ⟨b.val * 2048 + s.val, by omega⟩ ⟨h.val * 128 + e.val, by omega⟩))
              * (show EReal from P (ix3 1 ⟨b.val * 2048 + k.val, by omega⟩ ⟨h.val * 128 + e.val, by omega⟩))) * Ideal.ofBits .f32 0x3DB504F3#32
            + (show EReal from B (ix2 h (col k)))
          else Ideal.ofBits .f32 0xFF800000#32)
          fun k e => (show EReal from P (ix3 2 ⟨b.val * 2048 + k.val, by omega⟩ ⟨h.val * 128 + e.val, by omega⟩)))
        (fun e => G (ix1 ⟨h.val * 128 + e.val, by omega⟩)) d := by
  have es : ∀ k, SC (HQ P) (HK P) (BIAS B REL) (SEEN CHQ CHK) (ix4 b h s k) = _ := fun k =>
    (sc_at b h s k (HQ P) (HK P) (BIAS B REL) (SEEN CHQ CHK)).trans (if_congr (seen_at s k)
      (congrArg₂ _ (congrArg (· * _) (Finset.sum_congr rfl fun e _ => congrArg₂ _ (hq_at b h s e P) (hk_at b h k e P)))
        (bias_at h s k B REL (col k) (by rw [rel_at, hc]; omega))) rfl)
  unfold ALL
  generalize SC (HQ P) (HK P) (BIAS B REL) (SEEN CHQ CHK) = S at es
  refine (out_at b h s d _).trans ((nm_at b h s d _ G).trans (congrArg (fun o => norm o _ d) (funext fun e => ?_)))
  refine (av_at b h s e _ _).trans ?_
  unfold early den wts
  refine Finset.sum_congr rfl fun k _ => congrArg₂ _ ?_ (hv_at b h k e P)
  have ew : ∀ k, WT S (MX S) (ix4 b h s k) = Ideal.exp (S (ix4 b h s k) - top fun k => S (ix4 b h s k)) := fun k => by
    rw [wt_at, mx_at]
  refine (pr_at b h s k _).trans ?_
  simp only [ew, es]

end Cert.ReferenceIdeal.Attn
-- ==== Proof.Attn.Final.lean ====
module

public import proofs.«01_k».proof.Defs
public import proofs.«01_k».proof.Proof.Attn.Head
public import proofs.«01_k».proof.Proof.Attn.Table
public import proofs.«01_k».proof.Proof.Attn.RefAt
public import Idealize.ShloMosaic.Lib.Claim
public import Idealize.ShloMosaic.Lib.Pipeline.ValueKit
public import Idealize.ShloMosaic.Lib.StableHlo.ReadAt

@[expose] public section

set_option maxRecDepth 16384
set_option maxHeartbeats 1600000

noncomputable section

namespace Cert.Mixers

open Idealize.ShloMosaic Idealize.ShloMosaic.TcCoe Idealize.SL.Sem
open Cert.Attn Cert.KernelIdeal Cert.KernelIdeal.Gen
open Cert.ReferenceIdeal.Attn (ALL all_at)

variable (m : (ℓ : Loc nD τ sig) → Buf (Elt Ideal) ℓ)

/-- Which block of its array each window of the attention shows at a point. -/
theorem idx : ∀ t : Fin cfg0.N, win0_0.index t = ![0, t.val / 8, t.val % 8, 0] ∧ win0_1.index t = ![1, t.val / 8, 0, 0]
    ∧ win0_2.index t = ![2, t.val / 8, 0, 0] ∧ win0_3.index t = ![min (t.val % 8) 2, 0, 0, 0] ∧ win0_4.index t = ![0, 0]
    ∧ win0_14.index t = ![t.val / 8, t.val % 8, 0] :=
  (by decide +kernel : ∀ t : Fin grid0.N, _)

/-- The projections, split into sequences. -/
theorem proj_at (c : Dev nD) (j : Fin 16384) (i : Fin 7) (k : Fin 1024) (b : Fin 8) (s : Fin 2048) (h : j.val = b.val * 2048 + s.val) :
    (V m c main_v166 : FVec Ideal S7x8x2048x1024 .bf16) (ix4 i b s k)
      = (show FVec Ideal S7x16384x1024 .bf16 from m ((c : Thread nD τ).loc main_arg0)) (ix3 i j k) := by
  unfold V
  after_reads_at
  exact congrArg (m ((c : Thread nD τ).loc main_arg0)) (congrArg (fun j => ix3 i j k) (Fin.ext h.symm))

/-- The gains, as one row. -/
theorem gain_at (c : Dev nD) (k : Fin 1024) : (V m c main_v164 : FVec Ideal S1x1024 .f32) (ix2 0 k)
    = (show FVec Ideal S1024 .f32 from m ((c : Thread nD τ).loc main_arg2)) (ix1 k) := by
  unfold V
  after_reads_at

/-- The queries a point shows. -/
theorem block0 (c : Dev nD) (t : Fin cfg0.N) (r : Fin 256) (k : Fin 1024) (b : Fin 8) (s : Fin 2048) (j : Fin 16384)
    (hb : b.val = t.val / 8) (hs : s.val = t.val % 8 * 256 + r.val) (hj : j.val = b.val * 2048 + s.val) :
    (show FVec Ideal S1x1x256x1024 .bf16 from iblk m c 0 t) (ix4 0 0 r k)
      = (show FVec Ideal S7x16384x1024 .bf16 from m ((c : Thread nD τ).loc main_arg0)) (ix3 0 j k) := by
  blk_simp [iblk, idx t]
  have e : ((View.whole main_v166).slice (win0_0.rect t)).emb (ix4 0 0 r k) = ix4 0 b s k := by blk_ext [idx t]
  exact (congrArg _ e).trans (proj_at m c j 0 k b s hj)

/-- The keys a point shows. -/
theorem block1 (c : Dev nD) (t : Fin cfg0.N) (s : Fin 2048) (k : Fin 1024) (b : Fin 8) (j : Fin 16384)
    (hb : b.val = t.val / 8) (hj : j.val = b.val * 2048 + s.val) :
    (show FVec Ideal S1x1x2048x1024 .bf16 from iblk m c 1 t) (ix4 0 0 s k)
      = (show FVec Ideal S7x16384x1024 .bf16 from m ((c : Thread nD τ).loc main_arg0)) (ix3 1 j k) := by
  blk_simp [iblk, idx t]
  have e : ((View.whole main_v166).slice (win0_1.rect t)).emb (ix4 0 0 s k) = ix4 1 b s k := by blk_ext [idx t]
  exact (congrArg _ e).trans (proj_at m c j 1 k b s hj)

/-- The values a point shows. -/
theorem block2 (c : Dev nD) (t : Fin cfg0.N) (s : Fin 2048) (k : Fin 1024) (b : Fin 8) (j : Fin 16384)
    (hb : b.val = t.val / 8) (hj : j.val = b.val * 2048 + s.val) :
    (show FVec Ideal S1x1x2048x1024 .bf16 from iblk m c 2 t) (ix4 0 0 s k)
      = (show FVec Ideal S7x16384x1024 .bf16 from m ((c : Thread nD τ).loc main_arg0)) (ix3 2 j k) := by
  blk_simp [iblk, idx t]
  have e : ((View.whole main_v166).slice (win0_2.rect t)).emb (ix4 0 0 s k) = ix4 2 b s k := by blk_ext [idx t]
  exact (congrArg _ e).trans (proj_at m c j 2 k b s hj)

/-- The biases a point shows. -/
theorem block3 (c : Dev nD) (t : Fin cfg0.N) (o : Fin 3) (ho : o.val = min (t.val % 8) 2) (h : Fin 8) (r : Fin 256) (p : Fin 768) (j : Fin 257)
    (hj : j.val = min (max (256 * o.val + r.val + 1152 - p.val) 1024) 1280 - 1024) :
    (show FVec Ideal S1x8x256x768 .f32 from iblk m c 3 t) (ix4 0 h r p)
      = if r.val / 64 + 4 * o.val ≤ p.val / 64 + 8 ∧ p.val / 64 ≤ r.val / 64 + 4 * o.val
        then (show FVec Ideal S8x257 .f32 from m ((c : Thread nD τ).loc main_arg1)) (ix2 h j) else Ideal.ofBits .f32 0xFF800000#32 := by
  blk_simp [iblk, idx t]
  have e : ((View.whole main_v163).slice (win0_3.rect t)).emb (ix4 0 h r p) = ix4 o h r p := by blk_ext [idx t]
  exact (congrArg _ e).trans (table_at m c o h r p j hj)

/-- The gains a point shows. -/
theorem block4 (c : Dev nD) (t : Fin cfg0.N) (k : Fin 1024) :
    (show FVec Ideal S1x1024 .f32 from iblk m c 4 t) (ix2 0 k)
      = (show FVec Ideal S1024 .f32 from m ((c : Thread nD τ).loc main_arg2)) (ix1 k) := by
  blk_simp [iblk, idx t]
  have e : ((View.whole main_v164).slice (win0_4.rect t)).emb (ix2 0 k) = ix2 0 k := by blk_ext [idx t]
  exact (congrArg _ e).trans (gain_at m c k)

/-- Adding a masked bias is masking the sum. -/
theorem add_mask (P Q : Prop) [Decidable P] [Decidable Q] (h : P ↔ Q) (x y : EReal) :
    x + (if P then y else Ideal.ofBits .f32 0xFF800000#32) = if Q then x + y else Ideal.ofBits .f32 0xFF800000#32 := by
  have e : Ideal.ofBits .f32 0xFF800000#32 = ⊥ := by simp [Ideal.ofBits, Ideal.ieee]
  by_cases q : Q
  · rw [if_pos q, if_pos (h.2 q)]
  · rw [if_neg q, if_neg (fun p => q (h.1 p)), e, EReal.add_bot]

/-- An entry of what a point leaves is the reference's. -/
theorem left_ref (c : Dev nD) (t : Fin cfg0.N) (r : Fin 256) (h : Fin 8) (d : Fin 128) (b : Fin 8) (s : Fin 2048)
    (hb : b.val = t.val / 8) (hs : s.val = t.val % 8 * 256 + r.val) :
    leftA m c t (ix3 0 r ⟨h.val * 128 + d.val, by omega⟩)
      = ALL (m ((c : Thread nD τ).loc main_arg0)) (m ((c : Thread nD τ).loc main_arg1)) (m ((c : Thread nD τ).loc main_arg2))
          (ix3 b s ⟨h.val * 128 + d.val, by omega⟩) := by
  have hl : (lo t).val = 256 * (t.val % 8 - 2) := rfl
  have hlo : (lo t).val + 768 ≤ 2048 := by omega
  refine (leftA_at m c t r h d).trans ?_
  refine Eq.trans ?_ (all_at b h s d _ _ _ (fun k => ⟨min (max (s.val + 2047 - k.val) 1919) 2175 - 1919, by omega⟩) (fun _ => rfl)).symm
  rw [norm_early, late_window _ (lo t).val hlo (fun k hk => by
    rw [if_neg (by omega)]
    simp [Ideal.ofBits, Ideal.ieee])]
  unfold blockOut
  refine congrArg₂ (fun a g => norm a g d) (congrArg₂ late (funext fun p => ?_) (funext fun p => funext fun e => ?_)) (funext fun e => ?_)
  · refine Eq.trans (congrArg₂ (· + ·) (congrArg (· * _) (Finset.sum_congr rfl fun e _ => congrArg₂ (· * ·)
      (block0 m c t r _ b s ⟨b.val * 2048 + s.val, by omega⟩ hb hs rfl)
      (block1 m c t _ _ b ⟨b.val * 2048 + ((lo t).val + p.val), by omega⟩ hb rfl)))
      (block3 m c t ⟨min (t.val % 8) 2, by omega⟩ rfl h r p ⟨min (max (s.val + 2047 - ((lo t).val + p.val)) 1919) 2175 - 1919, by omega⟩ (by dsimp only; omega))) ?_
    exact add_mask _ _ (by dsimp only; omega) _ _
  · exact block2 m c t _ _ b _ hb rfl
  · exact block4 m c t _

/-- The attention's array is the reference's. -/
theorem final (c : Dev nD) : (dats m 0 c).arrAt 14 (cfgs 0).N
    = ALL (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after_14]
  have hN : t.val < 64 := lt_of_lt_of_eq t.isLt (show cfg0.N = 64 from N_0)
  idx_vars y
  obtain ⟨b, hb⟩ : ∃ b : Fin 8, b.val = t.val / 8 := ⟨⟨t.val / 8, by omega⟩, rfl⟩
  obtain ⟨s, hs⟩ : ∃ s : Fin 2048, s.val = t.val % 8 * 256 + y1.val := ⟨⟨t.val % 8 * 256 + y1.val, by omega⟩, rfl⟩
  obtain ⟨h, d, rfl⟩ : ∃ (h : Fin 8) (d : Fin 128), y2 = ⟨h.val * 128 + d.val, by omega⟩ :=
    ⟨⟨y2.val / 128, by omega⟩, ⟨y2.val % 128, by omega⟩, Fin.ext (by dsimp only; omega)⟩
  obtain rfl : y0 = 0 := Subsingleton.elim _ _
  have e : ((View.whole main_v167_0).slice (win0_14.rect t)).emb (ix3 0 y1 ⟨h.val * 128 + d.val, by omega⟩)
      = ix3 b s ⟨h.val * 128 + d.val, by omega⟩ := by
    blk_ext [idx t]
  refine Eq.trans ?_ (congrArg _ e).symm
  exact left_ref m c t y1 h d b s hb hs

/-- The run of the mixers, with the attention's array read and the arguments unchanged. -/
theorem attn_run (ρ : Dev nD → PrngReg) : θ_run defs (onTc (τ := τ) (main (F := Ideal))) ⟨m, fun _ => 0, ρ⟩ fun r => ∀ c : Dev nD,
    r.2.mem ((c.tc : Thread nD τ).loc main_v167_0)
      = ALL (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h.2 c).1 14).trans (final m c), h.1.1 c⟩) (θ_run_and (frame_all m ρ) (run_main m ρ))

end Cert.Mixers
-- ==== Proof.Attn.Claim.lean ====
module

public import proofs.«01_k».proof.Proof.Attn.Final

@[expose] public section

noncomputable section

namespace Cert.Proof

open Idealize.ShloMosaic Idealize.SL.Sem

/-- The attention's reference runs and ends with its arguments unchanged and every counter at zero: it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Attn.res_run m ρ)

/-- The mixers' attention and its reference end with equal results, as extended reals. -/
theorem algebraic : Cert.algebraic_KernelIdeal_ReferenceIdeal := fun m g m' g' _ hagree =>
  ⟨fun c => Cert.ReferenceIdeal.Attn.ALL (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Mixers.attn_run m g,
    (θ_run Cert.ReferenceIdeal.defs _ _).mono (fun r h c => ⟨(h c).1.trans (by rw [(hagree c).1, (hagree c).2.1, (hagree c).2.2.1]), (h c).2⟩)
      (Cert.ReferenceIdeal.Attn.res_run m' g')⟩

end Cert.Proof
-- ==== Proof.Inproj.Terms.lean ====
module

public import Idealize.ShloMosaic.Lib.Pointwise

@[expose] public section

noncomputable section

namespace Cert.Inproj

open Idealize.ShloMosaic

/-- A row of 8 heads of 128, each head divided by its root mean square and multiplied by a gain. -/
def headNorm (p : Fin 1024 → EReal) (g : Fin 128 → EReal) (c : Fin 1024) : EReal :=
  p c * Ideal.rsqrt (Ideal.div (∑ l : Fin 128, p ⟨c.val / 128 * 128 + l.val, by omega⟩ * p ⟨c.val / 128 * 128 + l.val, by omega⟩)
    (Ideal.ofBits .f32 0x43000000#32) + Ideal.ofBits .f32 0x358637BD#32) * g ⟨c.val % 128, by omega⟩

/-- A row of 8 heads of 128, each head turned: a multiple of itself plus a multiple of its two halves swapped. -/
def headTurn (p : Fin 1024 → EReal) (cs sn : Fin 128 → EReal) (c : Fin 1024) : EReal :=
  p c * cs ⟨c.val % 128, by omega⟩ + p ⟨c.val / 128 * 128 + (c.val % 128 + 64) % 128, by omega⟩ * sn ⟨c.val % 128, by omega⟩

/-- A row divided by its root mean square and multiplied by a gain. -/
def rowNorm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

/-- The angle of a position and a frequency. -/
def angle (s : Fin 2048) (d : Fin 64) : EReal :=
  HMul.hMul (α := EReal) (β := EReal) (γ := EReal) (FloatOps.sitofp (F := Ideal) FTy.f32 (BitVec.ofNat 32 s.val))
    (Ideal.pow (Ideal.ofBits FTy.f32 1176256512#32)
      (Ideal.div (Neg.neg (α := EReal) (FloatOps.sitofp (F := Ideal) FTy.f32 (BitVec.ofNat 32 d.val))) (Ideal.ofBits FTy.f32 1115684864#32)))

/-- The cosines, repeated for both halves of a head. -/
def cosT (s : Fin 2048) (d : Fin 128) : EReal := Ideal.cos (angle s ⟨d.val % 64, by omega⟩)

/-- The sines, negated for the first half of a head. -/
def sinT (s : Fin 2048) (d : Fin 128) : EReal :=
  if d.val < 64 then -Ideal.sin (angle s ⟨d.val % 64, by omega⟩) else Ideal.sin (angle s ⟨d.val % 64, by omega⟩)

/-- Subtracting a multiple is adding the multiple by the negated factor. -/
theorem turn_first (p u q v : EReal) : p * u - q * v = p * u + q * -v := by
  rw [sub_eq_add_neg, mul_neg]

/-- A turned entry, its two halves written apart. -/
theorem turn_split (p : Fin 1024 → EReal) (s : Fin 2048) (c : Fin 1024) :
    (if h : c.val % 128 < 64 then
      p c * Ideal.cos (angle s ⟨c.val % 128, h⟩) - p ⟨c.val / 128 * 128 + (64 + c.val % 128), by omega⟩ * Ideal.sin (angle s ⟨c.val % 128, h⟩)
    else
      p ⟨c.val / 128 * 128 + (64 + (c.val % 128 - 64)), by omega⟩ * Ideal.cos (angle s ⟨c.val % 128 - 64, by omega⟩)
        + p ⟨c.val / 128 * 128 + (c.val % 128 - 64), by omega⟩ * Ideal.sin (angle s ⟨c.val % 128 - 64, by omega⟩))
      = headTurn p (cosT s) (sinT s) c := by
  by_cases h : c.val % 128 < 64
  · have e1 : c.val % 128 % 64 = c.val % 128 := by omega
    have e2 : (c.val % 128 + 64) % 128 = 64 + c.val % 128 := by omega
    simp only [dif_pos h, if_pos h, headTurn, cosT, sinT, e1, e2]
    exact turn_first _ _ _ _
  · have e1 : c.val % 128 % 64 = c.val % 128 - 64 := by omega
    have e2 : (c.val % 128 + 64) % 128 = c.val % 128 - 64 := by omega
    have e3 : c.val / 128 * 128 + (64 + (c.val % 128 - 64)) = c.val := by omega
    simp only [dif_neg h, if_neg h, headTurn, cosT, sinT, e1, e2, e3]

end Cert.Inproj
-- ==== Proof.Inproj.Blocks.lean ====
module

public import proofs.«01_k».proof.Proof.Gen.InKernelIdeal.Value
public import proofs.«01_k».proof.Proof.Inproj.Terms
public import Idealize.ShloMosaic.Lib.Pipeline.ValueKit
public import Idealize.ShloMosaic.Lib.Pointwise

@[expose] public section

set_option maxRecDepth 16384

noncomputable section

namespace Cert.InKernelIdeal.Inproj

open Idealize.ShloMosaic Idealize.ShloMosaic.TcCoe Idealize.SL.Sem
open Cert.Inproj Cert.InKernelIdeal Cert.InKernelIdeal.Gen

/-- One entry of a product of normalised rows and a weight block. -/
def dotV (hn : Vec Ideal S1024x2048 .bf16) (w : Vec Ideal S1x2048x1024 .bf16) (r c : Fin 1024) : EReal :=
  ∑ k : Fin 2048, (show EReal from hn (ix2 r k)) * (show EReal from w (ix3 0 k c))

/-- The product's entry, at indices given by their values. -/
theorem dot_close (hn : Vec Ideal S1024x2048 .bf16) (w : Vec Ideal S1x2048x1024 .bf16) (r c r' c' : Fin 1024)
    (hr : r'.val = r.val) (hc : c'.val = c.val) :
    (∑ k : Fin 2048, (show EReal from hn (ix2 r k)) * (show EReal from w (ix3 0 k c))) = dotV hn w r' c' := by
  obtain rfl := Fin.ext hr
  obtain rfl := Fin.ext hc
  rfl

/-- The normalised entry from its parts. -/
theorem norm_close (p : Fin 1024 → EReal) (g : Fin 128 → EReal) (c : Fin 1024) (a e : EReal) (b : Fin 128 → EReal)
    (ha : a = p c) (hb : ∀ l, b l = p ⟨c.val / 128 * 128 + l.val, by omega⟩) (he : e = g ⟨c.val % 128, by omega⟩) :
    a * Ideal.rsqrt (Ideal.div (∑ l, b l * b l) (Ideal.ofBits .f32 0x43000000#32) + Ideal.ofBits .f32 0x358637BD#32) * e
      = headNorm p g c := by
  obtain rfl : b = _ := funext hb
  rw [ha, he]; rfl

/-- The turned entry from its parts. -/
theorem turn_close (p : Fin 1024 → EReal) (cs sn : Fin 128 → EReal) (c : Fin 1024) (a b u v : EReal)
    (ha : a = p c) (hb : b = p ⟨c.val / 128 * 128 + (c.val % 128 + 64) % 128, by omega⟩)
    (hu : u = cs ⟨c.val % 128, by omega⟩) (hv : v = sn ⟨c.val % 128, by omega⟩) :
    a * u + b * v = headTurn p cs sn c := by
  rw [ha, hb, hu, hv]; rfl

/-- An entry of a gain or of a table, at indices given by their values. -/
theorem at_close {n k : ℕ} {φ : FTy} (g : FVec Ideal ⟨2, ![n, k]⟩ φ) (r r' : Fin n) (d d' : Fin k) (hr : r.val = r'.val) (hd : d.val = d'.val) :
    g (ix2 r d) = g (ix2 r' d') := by
  obtain rfl := Fin.ext hr
  obtain rfl := Fin.ext hd
  rfl

/-- At a point of the plain groups the block stored is the product of the normalised rows and the weight block. -/
theorem plain_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1024x2048 .bf16) (harg10 : arg10.IsWhole) (hc0 : ¬cond0_0 i) (hc1 : ¬cond0_1 i) (hc2 : ¬cond0_2 i) (hc3 : ¬cond0_3 i) (hc4 : cond0_4 i)
    (x0 : Vec Ideal S1024x2048 .f32) (x1 : Vec Ideal S1x2048 .f32) (x2 : Vec Ideal S1x2048x1024 .bf16) (x3 : Vec Ideal S1x128 .f32) (x4 : Vec Ideal S1x128 .f32) (x5 : Vec Ideal S1024x128 .f32) (x6 : Vec Ideal S1024x128 .f32) (xs0 : Vec Ideal S1024x2048 .bf16) (y : S1x1024x1024.Idx) :
    out0_C_7 c i arg2 harg2 arg3 harg3 arg4 harg4 arg5 harg5 arg6 harg6 arg7 harg7 arg8 harg8 arg9 harg9 arg10 harg10 hc0 hc1 hc2 hc3 hc4 x0 x1 x2 x3 x4 x5 x6 xs0 y = dotV xs0 x2 (y 1) (y 2) := by
  unfold out0_C_7
  frame_out
  canon_tiles x h
  all_goals (open_payloads; pointwise)
  all_goals
    exact dot_close _ _ _ _ _ _ h1 (by first | omega | (dsimp only; omega))

/-- At a point of the keys' group the block stored is the product, normalised head by head with the keys' gain. -/
theorem norm_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1024x2048 .bf16) (harg10 : arg10.IsWhole) (hc0 : ¬cond0_0 i) (hc1 : ¬cond0_1 i) (hc2 : cond0_2 i) (hc3 : ¬cond0_3 i) (hc4 : ¬cond0_4 i)
    (x0 : Vec Ideal S1024x2048 .f32) (x1 : Vec Ideal S1x2048 .f32) (x2 : Vec Ideal S1x2048x1024 .bf16) (x3 : Vec Ideal S1x128 .f32) (x4 : Vec Ideal S1x128 .f32) (x5 : Vec Ideal S1024x128 .f32) (x6 : Vec Ideal S1024x128 .f32) (xs0 : Vec Ideal S1024x2048 .bf16) (y : S1x1024x1024.Idx) :
    out0_B_7 c i arg2 harg2 arg3 harg3 arg4 harg4 arg5 harg5 arg6 harg6 arg7 harg7 arg8 harg8 arg9 harg9 arg10 harg10 hc0 hc1 hc2 hc3 hc4 x0 x1 x2 x3 x4 x5 x6 xs0 y = headNorm (dotV xs0 x2 (y 1)) (fun d => x4 (ix2 0 d)) (y 2) := by
  unfold out0_B_7
  frame_out
  canon_tiles x h
  all_goals (open_payloads; pointwise)
  all_goals
    exact norm_close _ _ _ _ _ _ (dot_close _ _ _ _ _ _ h1 (by first | omega | (dsimp only; omega)))
      (fun l => dot_close _ _ _ _ _ _ h1 (by first | omega | (dsimp only; omega))) (at_close (φ := .f32) _ _ _ _ _ rfl (by first | omega | (dsimp only; omega)))

/-- At a point of the rotary groups the block stored is the product, turned head by head by the angles' tables. -/
theorem turn_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1024x2048 .bf16) (harg10 : arg10.IsWhole) (hc0 : ¬cond0_0 i) (hc1 : ¬cond0_1 i) (hc2 : ¬cond0_2 i) (hc3 : cond0_3 i) (hc4 : ¬cond0_4 i)
    (x0 : Vec Ideal S1024x2048 .f32) (x1 : Vec Ideal S1x2048 .f32) (x2 : Vec Ideal S1x2048x1024 .bf16) (x3 : Vec Ideal S1x128 .f32) (x4 : Vec Ideal S1x128 .f32) (x5 : Vec Ideal S1024x128 .f32) (x6 : Vec Ideal S1024x128 .f32) (xs0 : Vec Ideal S1024x2048 .bf16) (y : S1x1024x1024.Idx) :
    out0_D_7 c i arg2 harg2 arg3 harg3 arg4 harg4 arg5 harg5 arg6 harg6 arg7 harg7 arg8 harg8 arg9 harg9 arg10 harg10 hc0 hc1 hc2 hc3 hc4 x0 x1 x2 x3 x4 x5 x6 xs0 y = headTurn (dotV xs0 x2 (y 1)) (fun d => x5 (ix2 (y 1) d)) (fun d => x6 (ix2 (y 1) d)) (y 2) := by
  unfold out0_D_7
  frame_out
  canon_tiles x h
  all_goals (open_payloads; pointwise)
  all_goals
    exact turn_close _ _ _ _ _ _ _ _ (dot_close _ _ _ _ _ _ h1 (by first | omega | (dsimp only; omega)))
      (dot_close _ _ _ _ _ _ h1 (by first | omega | (dsimp only; omega))) (at_close (φ := .f32) _ _ _ _ _ h1.symm (by first | omega | (dsimp only; omega)))
      (at_close (φ := .f32) _ _ _ _ _ h1.symm (by first | omega | (dsimp only; omega)))

/-- At a point of the queries' group the block stored is the product, normalised head by head with the queries' gain. -/
theorem norm_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1024x2048 .bf16) (harg10 : arg10.IsWhole) (hc0 : cond0_0 i) (hc1 : cond0_1 i) (hc2 : ¬cond0_2 i) (hc3 : ¬cond0_3 i) (hc4 : ¬cond0_4 i)
    (x0 : Vec Ideal S1024x2048 .f32) (x1 : Vec Ideal S1x2048 .f32) (x2 : Vec Ideal S1x2048x1024 .bf16) (x3 : Vec Ideal S1x128 .f32) (x4 : Vec Ideal S1x128 .f32) (x5 : Vec Ideal S1024x128 .f32) (x6 : Vec Ideal S1024x128 .f32) (y : S1x1024x1024.Idx) :
    out0_A_7 c i arg2 harg2 arg3 harg3 arg4 harg4 arg5 harg5 arg6 harg6 arg7 harg7 arg8 harg8 arg9 harg9 arg10 harg10 hc0 hc1 hc2 hc3 hc4 x0 x1 x2 x3 x4 x5 x6 y = headNorm (dotV (k0_pay1 (F := Ideal) x0 x1) x2 (y 1)) (fun d => x3 (ix2 0 d)) (y 2) := by
  unfold out0_A_7
  frame_out
  canon_tiles x h
  all_goals (open_payloads; pointwise)
  all_goals
    exact norm_close _ _ _ _ _ _ (dot_close _ _ _ _ _ _ h1 (by first | omega | (dsimp only; omega)))
      (fun l => dot_close _ _ _ _ _ _ h1 (by first | omega | (dsimp only; omega))) (at_close (φ := .f32) _ _ _ _ _ rfl (by first | omega | (dsimp only; omega)))

/-- At a point of the queries' group the rows kept are the input's rows, normalised with the layer's gain. -/
theorem rows_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1024x1024 .bf16) (harg9 : arg9.IsWhole) (arg10 : Memref sig .tc .vmem S1024x2048 .bf16) (harg10 : arg10.IsWhole) (hc0 : cond0_0 i) (hc1 : cond0_1 i) (hc2 : ¬cond0_2 i) (hc3 : ¬cond0_3 i) (hc4 : ¬cond0_4 i)
    (x0 : Vec Ideal S1024x2048 .f32) (x1 : Vec Ideal S1x2048 .f32) (x2 : Vec Ideal S1x2048x1024 .bf16) (x3 : Vec Ideal S1x128 .f32) (x4 : Vec Ideal S1x128 .f32) (x5 : Vec Ideal S1024x128 .f32) (x6 : Vec Ideal S1024x128 .f32) (y : S1024x2048.Idx) :
    sout0_A_0 c i arg2 harg2 arg3 harg3 arg4 harg4 arg5 harg5 arg6 harg6 arg7 harg7 arg8 harg8 arg9 harg9 arg10 harg10 hc0 hc1 hc2 hc3 hc4 x0 x1 x2 x3 x4 x5 x6 y = rowNorm (fun k => x0 (ix2 (y 0) k)) (fun k => x1 (ix2 0 k)) (y 1) := by
  unfold sout0_A_0
  frame_out
  idx_vars y
  pointwise [k0_pay1]
  rfl

end Cert.InKernelIdeal.Inproj
-- ==== Proof.Inproj.Array.lean ====
module

public import proofs.«01_k».proof.Proof.Inproj.Blocks

@[expose] public section

set_option maxRecDepth 16384

noncomputable section

namespace Cert.InKernelIdeal.Inproj

open Idealize.ShloMosaic Idealize.ShloMosaic.TcCoe Idealize.SL.Sem
open Cert.Inproj Cert.InKernelIdeal Cert.InKernelIdeal.Gen

variable (m : (ℓ : Loc nD τ sig) → Buf (Elt Ideal) ℓ)

/-- Which block of its array each window shows at a point. -/
theorem idx : ∀ t : Fin cfg0.N, win0_0.index t = ![t.val / 7, 0] ∧ win0_1.index t = ![0, 0]
    ∧ win0_2.index t = ![0, 0, t.val % 7] ∧ win0_3.index t = ![0, 0] ∧ win0_4.index t = ![0, 0]
    ∧ win0_5.index t = ![t.val / 7 % 2, 0] ∧ win0_6.index t = ![t.val / 7 % 2, 0]
    ∧ win0_7.index t = ![t.val % 7, t.val / 7, 0] :=
  (by decide +kernel : ∀ t : Fin grid0.N, _)

/-- The rows kept at a point, as a function of the point's blocks. -/
def rows (c : Dev nD) (t : Fin cfg0.N) (r : Fin 1024) (k : Fin 2048) : EReal :=
  rowNorm (fun k => (show FVec Ideal S1024x2048 .f32 from iblk m c 0 t) (ix2 r k))
    (fun k => (show FVec Ideal S1x2048 .f32 from iblk m c 1 t) (ix2 0 k)) k

/-- Points of one row tile show the same rows and the same gain. -/
theorem rows_same (c : Dev nD) (t t' : Fin cfg0.N) (h : t.val / 7 = t'.val / 7) : rows m c t = rows m c t' := by
  have e0 : (show FVec Ideal S1024x2048 .f32 from iblk m c 0 t) = iblk m c 0 t' := by
    funext y
    blk_ext [iblk, V, idx t, idx t']
  have e1 : (show FVec Ideal S1x2048 .f32 from iblk m c 1 t) = iblk m c 1 t' := by
    funext y
    blk_ext [iblk, V, idx t, idx t']
  unfold rows
  rw [e0, e1]

/-- At a point of the queries' group the scratch is written. -/
theorem scratch_new (c : Dev nD) (t : Fin cfg0.N) (h0 : t.val % 7 = 0) (y : S1024x2048.Idx) :
    (outsAt0 m c t.val t.isLt).2 y = rows m c t (y 0) (y 1) := by
  rw [outsAt0_A m c t h0 h0 (by omega) (by omega) (by omega)]
  dsimp only
  rw [rows_A]
  rfl

/-- At the other points the scratch is kept. -/
theorem scratch_kept (c : Dev nD) (t : Fin cfg0.N) (h0 : ¬t.val % 7 = 0) :
    (outsAt0 m c t.val t.isLt).2 = (outsAt0 m c (t.val - 1) (Nat.lt_of_le_of_lt (Nat.sub_le _ _) t.isLt)).2 := by
  by_cases h2 : t.val % 7 = 1
  · rw [outsAt0_B m c t h0 h0 h2 (by omega) (by omega)]
    rfl
  · by_cases h3 : 3 ≤ t.val % 7 ∧ t.val % 7 ≤ 4
    · rw [outsAt0_D m c t h0 h0 h2 h3 (by omega)]
      rfl
    · rw [outsAt0_C m c t h0 h0 h2 h3 (by omega)]
      rfl

/-- After every point the scratch holds the normalised rows of the point's row tile. -/
theorem scratch (c : Dev nD) (y : S1024x2048.Idx) : ∀ (n : ℕ) (t : Fin cfg0.N), t.val = n →
    (outsAt0 m c t.val t.isLt).2 y = rows m c t (y 0) (y 1)
  | 0, t, ht => scratch_new m c t (by omega) y
  | n + 1, t, ht => by
    by_cases h0 : t.val % 7 = 0
    · exact scratch_new m c t h0 y
    · rw [scratch_kept m c t h0]
      exact (scratch c y n ⟨t.val - 1, Nat.lt_of_le_of_lt (Nat.sub_le _ _) t.isLt⟩ (by dsimp only; omega)).trans
        (congrFun (congrFun (rows_same m c ⟨t.val - 1, Nat.lt_of_le_of_lt (Nat.sub_le _ _) t.isLt⟩ t (by dsimp only; omega)) _) _)

/-- At a point after a row tile's first the kept rows are the normalised rows of the point's own tile. -/
theorem scratch_before (c : Dev nD) (t : Fin cfg0.N) (h0 : ¬t.val % 7 = 0) (y : S1024x2048.Idx) :
    (outsAt0 m c (t.val - 1) (Nat.lt_of_le_of_lt (Nat.sub_le _ _) t.isLt)).2 y = rows m c t (y 0) (y 1) :=
  (congrFun (scratch_kept m c t h0).symm y).trans (scratch m c y t.val t rfl)

end Cert.InKernelIdeal.Inproj
-- ==== Proof.Inproj.Entry.lean ====
module

public import proofs.«01_k».proof.Proof.Inproj.Array

@[expose] public section

set_option maxRecDepth 16384

noncomputable section

namespace Cert.InKernelIdeal.Inproj

open Idealize.ShloMosaic Idealize.ShloMosaic.TcCoe Idealize.SL.Sem
open Cert.Inproj Cert.InKernelIdeal Cert.InKernelIdeal.Gen

variable (m : (ℓ : Loc nD τ sig) → Buf (Elt Ideal) ℓ)

/-- The rows a point shows are the input's. -/
theorem block0 (c : Dev nD) (t : Fin cfg0.N) (r : Fin 1024) (k : Fin 2048) (b : Fin 8) (s : Fin 2048)
    (h : t.val / 7 * 1024 + r.val = b.val * 2048 + s.val) :
    (show FVec Ideal S1024x2048 .f32 from iblk m c 0 t) (ix2 r k)
      = (show FVec Ideal S8x2048x2048 .f32 from m ((c : Thread nD τ).loc main_arg0)) (ix3 b s k) := by
  blk_simp [iblk, idx t]
  entry_read
  pointwise
  blk_ext [idx t]

/-- The gain a point shows is the layer's. -/
theorem block1 (c : Dev nD) (t : Fin cfg0.N) (k : Fin 2048) :
    (show FVec Ideal S1x2048 .f32 from iblk m c 1 t) (ix2 0 k)
      = (show FVec Ideal S4x2048 .f32 from m ((c : Thread nD τ).loc main_arg1)) (ix2 0 k) := by
  blk_simp [iblk, idx t]
  entry_read
  pointwise
  blk_ext [idx t]

/-- The weights a point shows are its group's columns. -/
theorem block2 (c : Dev nD) (t : Fin cfg0.N) (k : Fin 2048) (d : Fin 1024) (e : Fin 7168) (h : e.val = 1024 * (t.val % 7) + d.val) :
    (show FVec Ideal S1x2048x1024 .bf16 from iblk m c 2 t) (ix3 0 k d)
      = (show FVec Ideal S4x2048x7168 .f32 from m ((c : Thread nD τ).loc main_arg2)) (ix3 0 k e) := by
  blk_simp [iblk, idx t]
  entry_read
  pointwise
  blk_ext [idx t]

/-- The queries' gain a point shows. -/
theorem block3 (c : Dev nD) (t : Fin cfg0.N) (d : Fin 128) :
    (show FVec Ideal S1x128 .f32 from iblk m c 3 t) (ix2 0 d)
      = (show FVec Ideal S4x128 .f32 from m ((c : Thread nD τ).loc main_arg3)) (ix2 0 d) := by
  blk_simp [iblk, idx t]
  entry_read
  pointwise
  blk_ext [idx t]

/-- The keys' gain a point shows. -/
theorem block4 (c : Dev nD) (t : Fin cfg0.N) (d : Fin 128) :
    (show FVec Ideal S1x128 .f32 from iblk m c 4 t) (ix2 0 d)
      = (show FVec Ideal S4x128 .f32 from m ((c : Thread nD τ).loc main_arg4)) (ix2 0 d) := by
  blk_simp [iblk, idx t]
  entry_read
  pointwise
  blk_ext [idx t]

/-- The cosines a point shows are those of its rows' positions. -/
theorem block5 (c : Dev nD) (t : Fin cfg0.N) (r : Fin 1024) (d : Fin 128) (s : Fin 2048) (h : s.val = t.val / 7 % 2 * 1024 + r.val) :
    (show FVec Ideal S1024x128 .f32 from iblk m c 5 t) (ix2 r d) = cosT s d := by
  blk_simp [iblk, idx t]
  entry_read
  pointwise
  have e0 : (((View.whole main_v14).slice (win0_5.rect t)).emb (ix2 r d) 0 : ℕ) = s.val := by
    blk_simp [idx t]
    omega
  have e1 : (((View.whole main_v14).slice (win0_5.rect t)).emb (ix2 r d) 1 : ℕ) = d.val := by
    blk_simp [idx t]
  simp only [e0, e1]
  by_cases hd : d.val < 64
  · have e2 : d.val % 64 = d.val := by omega
    simp only [dif_pos hd, cosT, angle, e2]
  · have e2 : d.val % 64 = d.val - 64 := by omega
    simp only [dif_neg hd, cosT, angle, e2]

/-- The sines a point shows are those of its rows' positions. -/
theorem block6 (c : Dev nD) (t : Fin cfg0.N) (r : Fin 1024) (d : Fin 128) (s : Fin 2048) (h : s.val = t.val / 7 % 2 * 1024 + r.val) :
    (show FVec Ideal S1024x128 .f32 from iblk m c 6 t) (ix2 r d) = sinT s d := by
  blk_simp [iblk, idx t]
  entry_read
  pointwise
  have e0 : (((View.whole main_v16).slice (win0_6.rect t)).emb (ix2 r d) 0 : ℕ) = s.val := by
    blk_simp [idx t]
    omega
  have e1 : (((View.whole main_v16).slice (win0_6.rect t)).emb (ix2 r d) 1 : ℕ) = d.val := by
    blk_simp [idx t]
  simp only [e0, e1]
  by_cases hd : d.val < 64
  · have e2 : d.val % 64 = d.val := by omega
    simp only [dif_pos hd, if_pos hd, sinT, angle, e2]
  · have e2 : d.val % 64 = d.val - 64 := by omega
    simp only [dif_neg hd, if_neg hd, sinT, angle, e2]

end Cert.InKernelIdeal.Inproj
-- ==== Proof.Inproj.Ref.lean ====
module

public import proofs.«01_k».proof.Proof.Gen.InReferenceIdeal.Run
public import proofs.«01_k».proof.Proof.Inproj.Terms

@[expose] public section

set_option maxRecDepth 16384

noncomputable section

namespace Cert.InReferenceIdeal.Inproj

open Idealize.ShloMosaic Idealize.ShloMosaic.TcCoe Idealize.SL.Sem
open Cert.Inproj Cert.InReferenceIdeal Cert.InReferenceIdeal.Gen Cert.InReferenceIdeal.Value

/-- The projection of the normalised rows. -/
def PROJ (X : FVec Ideal S8x2048x2048 .f32) (N : FVec Ideal S4x2048 .f32) (W : FVec Ideal S4x2048x7168 .f32) : FVec Ideal S8x2048x7168 .f32 :=
  (Host.dotGeneral dot_S8x2048x2048_S2048x7168_S8x2048x7168_2_0_01_1_n_n none (mulf (mulf X (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf X X) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] N slices_S4x2048_S1x2048_0_0) shapeCasts_S1x2048_S2048)))) (shapeCast _ (extractStridedSlice S1x2048x7168 ![0, 0, 0] W slices_S4x2048x7168_S1x2048x7168_0_0_0) shapeCasts_S1x2048x7168_S2048x7168))

/-- The queries of the attention, from the projection. -/
def PIECE0 (P : FVec Ideal S8x2048x7168 .f32) (QG : FVec Ideal S4x128 .f32) : FVec Ideal S1x8x2048x1024 .f32 :=
  (broadcastInDim S1x8x2048x1024 ![1, 2, 3] bcast_S8x2048x1024_S1x8x2048x1024_1_2_3 (shapeCast _ (transpose S8x2048x8x128 [0, 2, 1, 3] (mulf (mulf (transpose S8x8x2048x128 [0, 2, 1, 3] (shapeCast _ (extractStridedSlice S8x2048x1024 ![0, 0, 0] P slices_S8x2048x7168_S8x2048x1024_0_0_0) shapeCasts_S8x2048x1024_S8x2048x8x128) transposes_S8x2048x8x128_S8x8x2048x128_0_2_1_3) (broadcastInDim S8x8x2048x128 ![0, 1, 2, 3] bcast_S8x8x2048x1_S8x8x2048x128_0_1_2_3 (Host.rsqrt (addf (Host.divf (broadcastInDim S8x8x2048x1 ![0, 1, 2] bcast_S8x8x2048_S8x8x2048x1_0_1_2 (Host.reduceAdd (mulf (transpose S8x8x2048x128 [0, 2, 1, 3] (shapeCast _ (extractStridedSlice S8x2048x1024 ![0, 0, 0] P slices_S8x2048x7168_S8x2048x1024_0_0_0) shapeCasts_S8x2048x1024_S8x2048x8x128) transposes_S8x2048x8x128_S8x8x2048x128_0_2_1_3) (transpose S8x8x2048x128 [0, 2, 1, 3] (shapeCast _ (extractStridedSlice S8x2048x1024 ![0, 0, 0] P slices_S8x2048x7168_S8x2048x1024_0_0_0) shapeCasts_S8x2048x1024_S8x2048x8x128) transposes_S8x2048x8x128_S8x8x2048x128_0_2_1_3)) (constant S_ .f32 0x00000000#32) reducesTo_S8x8x2048x128_S8x8x2048_d3 h_S_)) (broadcastInDim S8x8x2048x1 ![] bcast_S_S8x8x2048x1 (constant S_ .f32 0x43000000#32))) (broadcastInDim S8x8x2048x1 ![] bcast_S_S8x8x2048x1 (constant S_ .f32 0x358637BD#32)))))) (broadcastInDim S8x8x2048x128 ![0, 1, 2, 3] bcast_S1x1x1x128_S8x8x2048x128_0_1_2_3 (broadcastInDim S1x1x1x128 ![3] bcast_S128_S1x1x1x128_3 (shapeCast _ (extractStridedSlice S1x128 ![0, 0] QG slices_S4x128_S1x128_0_0) shapeCasts_S1x128_S128)))) transposes_S8x8x2048x128_S8x2048x8x128_0_2_1_3) shapeCasts_S8x2048x8x128_S8x2048x1024))

/-- The keys of the attention, from the projection. -/
def PIECE1 (P : FVec Ideal S8x2048x7168 .f32) (KG : FVec Ideal S4x128 .f32) : FVec Ideal S1x8x2048x1024 .f32 :=
  (broadcastInDim S1x8x2048x1024 ![1, 2, 3] bcast_S8x2048x1024_S1x8x2048x1024_1_2_3 (shapeCast _ (transpose S8x2048x8x128 [0, 2, 1, 3] (mulf (mulf (transpose S8x8x2048x128 [0, 2, 1, 3] (shapeCast _ (extractStridedSlice S8x2048x1024 ![0, 0, 1024] P slices_S8x2048x7168_S8x2048x1024_0_0_1024) shapeCasts_S8x2048x1024_S8x2048x8x128) transposes_S8x2048x8x128_S8x8x2048x128_0_2_1_3) (broadcastInDim S8x8x2048x128 ![0, 1, 2, 3] bcast_S8x8x2048x1_S8x8x2048x128_0_1_2_3 (Host.rsqrt (addf (Host.divf (broadcastInDim S8x8x2048x1 ![0, 1, 2] bcast_S8x8x2048_S8x8x2048x1_0_1_2 (Host.reduceAdd (mulf (transpose S8x8x2048x128 [0, 2, 1, 3] (shapeCast _ (extractStridedSlice S8x2048x1024 ![0, 0, 1024] P slices_S8x2048x7168_S8x2048x1024_0_0_1024) shapeCasts_S8x2048x1024_S8x2048x8x128) transposes_S8x2048x8x128_S8x8x2048x128_0_2_1_3) (transpose S8x8x2048x128 [0, 2, 1, 3] (shapeCast _ (extractStridedSlice S8x2048x1024 ![0, 0, 1024] P slices_S8x2048x7168_S8x2048x1024_0_0_1024) shapeCasts_S8x2048x1024_S8x2048x8x128) transposes_S8x2048x8x128_S8x8x2048x128_0_2_1_3)) (constant S_ .f32 0x00000000#32) reducesTo_S8x8x2048x128_S8x8x2048_d3 h_S_)) (broadcastInDim S8x8x2048x1 ![] bcast_S_S8x8x2048x1 (constant S_ .f32 0x43000000#32))) (broadcastInDim S8x8x2048x1 ![] bcast_S_S8x8x2048x1 (constant S_ .f32 0x358637BD#32)))))) (broadcastInDim S8x8x2048x128 ![0, 1, 2, 3] bcast_S1x1x1x128_S8x8x2048x128_0_1_2_3 (broadcastInDim S1x1x1x128 ![3] bcast_S128_S1x1x1x128_3 (shapeCast _ (extractStridedSlice S1x128 ![0, 0] KG slices_S4x128_S1x128_0_0) shapeCasts_S1x128_S128)))) transposes_S8x8x2048x128_S8x2048x8x128_0_2_1_3) shapeCasts_S8x2048x8x128_S8x2048x1024))

/-- The values of the attention, from the projection. -/
def PIECE2 (P : FVec Ideal S8x2048x7168 .f32) : FVec Ideal S1x8x2048x1024 .f32 :=
  (broadcastInDim S1x8x2048x1024 ![1, 2, 3] bcast_S8x2048x1024_S1x8x2048x1024_1_2_3 (extractStridedSlice S8x2048x1024 ![0, 0, 2048] P slices_S8x2048x7168_S8x2048x1024_0_0_2048))

/-- The first halves of the heads, turned. -/
def FIRST (H : FVec Ideal S8x8x2048x128 .f32) (A B : FVec Ideal S2048x64 .f32) : FVec Ideal S8x8x2048x64 .f32 :=
  (subf (mulf (extractStridedSlice S8x8x2048x64 ![0, 0, 0, 0] H slices_S8x8x2048x128_S8x8x2048x64_0_0_0_0) (broadcastInDim S8x8x2048x64 ![0, 1, 2, 3] bcast_S1x1x2048x64_S8x8x2048x64_0_1_2_3 (broadcastInDim S1x1x2048x64 ![2, 3] bcast_S2048x64_S1x1x2048x64_2_3 A))) (mulf (extractStridedSlice S8x8x2048x64 ![0, 0, 0, 64] H slices_S8x8x2048x128_S8x8x2048x64_0_0_0_64) (broadcastInDim S8x8x2048x64 ![0, 1, 2, 3] bcast_S1x1x2048x64_S8x8x2048x64_0_1_2_3 (broadcastInDim S1x1x2048x64 ![2, 3] bcast_S2048x64_S1x1x2048x64_2_3 B))))

/-- The second halves of the heads, turned. -/
def SECOND (H : FVec Ideal S8x8x2048x128 .f32) (A B : FVec Ideal S2048x64 .f32) : FVec Ideal S8x8x2048x64 .f32 :=
  (addf (mulf (extractStridedSlice S8x8x2048x64 ![0, 0, 0, 64] H slices_S8x8x2048x128_S8x8x2048x64_0_0_0_64) (broadcastInDim S8x8x2048x64 ![0, 1, 2, 3] bcast_S1x1x2048x64_S8x8x2048x64_0_1_2_3 (broadcastInDim S1x1x2048x64 ![2, 3] bcast_S2048x64_S1x1x2048x64_2_3 A))) (mulf (extractStridedSlice S8x8x2048x64 ![0, 0, 0, 0] H slices_S8x8x2048x128_S8x8x2048x64_0_0_0_0) (broadcastInDim S8x8x2048x64 ![0, 1, 2, 3] bcast_S1x1x2048x64_S8x8x2048x64_0_1_2_3 (broadcastInDim S1x1x2048x64 ![2, 3] bcast_S2048x64_S1x1x2048x64_2_3 B))))

/-- The heads, turned by given cosines and sines. -/
def TURN (H : FVec Ideal S8x8x2048x128 .f32) (A B : FVec Ideal S2048x64 .f32) : FVec Ideal S8x8x2048x128 .f32 :=
  (concatenate S8x8x2048x128 3 [⟨S8x8x2048x64, (FIRST H A B)⟩, ⟨S8x8x2048x64, (SECOND H A B)⟩] concatenates_S8x8x2048x64_S8x8x2048x64_S8x8x2048x128_d3)

/-- The cosines of the angles. -/
def COS : FVec Ideal S2048x64 .f32 :=
  (Host.cos (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))))

/-- The sines of the angles. -/
def SIN : FVec Ideal S2048x64 .f32 :=
  (Host.sin (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))))

/-- A group of 1024 columns, head by head. -/
def HEADS (G : FVec Ideal S8x2048x1024 .f32) : FVec Ideal S8x8x2048x128 .f32 :=
  (transpose S8x8x2048x128 [0, 2, 1, 3] (shapeCast _ G shapeCasts_S8x2048x1024_S8x2048x8x128) transposes_S8x2048x8x128_S8x8x2048x128_0_2_1_3)

/-- The columns of the queries of the retention. -/
def COLS3 (P : FVec Ideal S8x2048x7168 .f32) : FVec Ideal S8x2048x1024 .f32 :=
  (extractStridedSlice S8x2048x1024 ![0, 0, 3072] P slices_S8x2048x7168_S8x2048x1024_0_0_3072)

/-- The columns of the keys of the retention. -/
def COLS4 (P : FVec Ideal S8x2048x7168 .f32) : FVec Ideal S8x2048x1024 .f32 :=
  (extractStridedSlice S8x2048x1024 ![0, 0, 4096] P slices_S8x2048x7168_S8x2048x1024_0_0_4096)

/-- Heads laid side by side. -/
def MERGE (T : FVec Ideal S8x8x2048x128 .f32) : FVec Ideal S1x8x2048x1024 .f32 :=
  (broadcastInDim S1x8x2048x1024 ![1, 2, 3] bcast_S8x2048x1024_S1x8x2048x1024_1_2_3 (shapeCast _ (transpose S8x2048x8x128 [0, 2, 1, 3] T transposes_S8x8x2048x128_S8x2048x8x128_0_2_1_3) shapeCasts_S8x2048x8x128_S8x2048x1024))

/-- The queries of the retention, from the projection. -/
def PIECE3 (P : FVec Ideal S8x2048x7168 .f32) : FVec Ideal S1x8x2048x1024 .f32 :=
  MERGE (TURN (HEADS (COLS3 P)) COS SIN)

/-- The keys of the retention, from the projection. -/
def PIECE4 (P : FVec Ideal S8x2048x7168 .f32) : FVec Ideal S1x8x2048x1024 .f32 :=
  MERGE (TURN (HEADS (COLS4 P)) COS SIN)

/-- The values of the retention, from the projection. -/
def PIECE5 (P : FVec Ideal S8x2048x7168 .f32) : FVec Ideal S1x8x2048x1024 .f32 :=
  (broadcastInDim S1x8x2048x1024 ![1, 2, 3] bcast_S8x2048x1024_S1x8x2048x1024_1_2_3 (extractStridedSlice S8x2048x1024 ![0, 0, 5120] P slices_S8x2048x7168_S8x2048x1024_0_0_5120))

/-- The gate of the retention, from the projection. -/
def PIECE6 (P : FVec Ideal S8x2048x7168 .f32) : FVec Ideal S1x8x2048x1024 .f32 :=
  (broadcastInDim S1x8x2048x1024 ![1, 2, 3] bcast_S8x2048x1024_S1x8x2048x1024_1_2_3 (extractStridedSlice S8x2048x1024 ![0, 0, 6144] P slices_S8x2048x7168_S8x2048x1024_0_0_6144))

/-- The seven groups, one after another. -/
def STACK (p0 p1 p2 p3 p4 p5 p6 : FVec Ideal S1x8x2048x1024 .f32) : FVec Ideal S7x16384x1024 .bf16 :=
  truncf .bf16 (shapeCast _ ((concatenate S7x8x2048x1024 0 [⟨S1x8x2048x1024, p0⟩, ⟨S1x8x2048x1024, p1⟩, ⟨S1x8x2048x1024, p2⟩, ⟨S1x8x2048x1024, p3⟩, ⟨S1x8x2048x1024, p4⟩, ⟨S1x8x2048x1024, p5⟩, ⟨S1x8x2048x1024, p6⟩] concatenates_S1x8x2048x1024_S1x8x2048x1024_S1x8x2048x1024_S1x8x2048x1024_S1x8x2048x1024_S1x8x2048x1024_S1x8x2048x1024_S7x8x2048x1024_d0 : (⟨S7x8x2048x1024, .f32⟩ : BufTy).Contents (Elt Ideal))) shapeCasts_S7x8x2048x1024_S7x16384x1024) bitsLt_bf16_f32

/-- The reference's result, over its arguments. -/
def REF (X : FVec Ideal S8x2048x2048 .f32) (N : FVec Ideal S4x2048 .f32) (W : FVec Ideal S4x2048x7168 .f32) (QG : FVec Ideal S4x128 .f32) (KG : FVec Ideal S4x128 .f32) : FVec Ideal S7x16384x1024 .bf16 :=
  STACK (PIECE0 (PROJ X N W) QG) (PIECE1 (PROJ X N W) KG) (PIECE2 (PROJ X N W)) (PIECE3 (PROJ X N W)) (PIECE4 (PROJ X N W)) (PIECE5 (PROJ X N W)) (PIECE6 (PROJ X N W))

/-- The reference's run ends with that result. -/
theorem res_eq (m : (ℓ : Loc nD τ sig) → Buf (Elt Ideal) ℓ) (c : Dev nD) :
    res_main_v143 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.InReferenceIdeal.Inproj
-- ==== Proof.Inproj.RefAt.lean ====
module

public import proofs.«01_k».proof.Proof.Inproj.Ref

@[expose] public section

set_option maxRecDepth 16384

noncomputable section

namespace Cert.InReferenceIdeal.Inproj

open Idealize.ShloMosaic Idealize.ShloMosaic.TcCoe Idealize.SL.Sem
open Cert.Inproj Cert.InReferenceIdeal Cert.InReferenceIdeal.Gen Cert.InReferenceIdeal.Value

/-- The projection at an index. -/
theorem proj_at (X : FVec Ideal S8x2048x2048 .f32) (N : FVec Ideal S4x2048 .f32) (W : FVec Ideal S4x2048x7168 .f32) (b : Fin 8) (s : Fin 2048) (c : Fin 7168) :
    PROJ X N W (ix3 b s c) = ∑ k : Fin 2048, rowNorm (fun k => X (ix3 b s k)) (fun k => N (ix2 0 k)) k * W (ix3 0 k c) := by
  pointwise [PROJ, rowNorm]

/-- The queries of the attention at an index. -/
theorem piece0_at (P : FVec Ideal S8x2048x7168 .f32) (QG : FVec Ideal S4x128 .f32) (b : Fin 8) (s : Fin 2048) (c : Fin 1024) :
    PIECE0 P QG (ix4 0 b s c) = headNorm (fun c => P (ix3 b s ⟨0 + c.val, by omega⟩)) (fun d => QG (ix2 0 d)) c := by
  pointwise [PIECE0, headNorm]

/-- The keys of the attention at an index. -/
theorem piece1_at (P : FVec Ideal S8x2048x7168 .f32) (KG : FVec Ideal S4x128 .f32) (b : Fin 8) (s : Fin 2048) (c : Fin 1024) :
    PIECE1 P KG (ix4 0 b s c) = headNorm (fun c => P (ix3 b s ⟨1024 + c.val, by omega⟩)) (fun d => KG (ix2 0 d)) c := by
  pointwise [PIECE1, headNorm]

/-- The values of the attention at an index. -/
theorem piece2_at (P : FVec Ideal S8x2048x7168 .f32) (b : Fin 8) (s : Fin 2048) (c : Fin 1024) :
    PIECE2 P (ix4 0 b s c) = P (ix3 b s ⟨2048 + c.val, by omega⟩) := by
  pointwise [PIECE2]

/-- The values of the retention at an index. -/
theorem piece5_at (P : FVec Ideal S8x2048x7168 .f32) (b : Fin 8) (s : Fin 2048) (c : Fin 1024) :
    PIECE5 P (ix4 0 b s c) = P (ix3 b s ⟨5120 + c.val, by omega⟩) := by
  pointwise [PIECE5]

/-- The gate of the retention at an index. -/
theorem piece6_at (P : FVec Ideal S8x2048x7168 .f32) (b : Fin 8) (s : Fin 2048) (c : Fin 1024) :
    PIECE6 P (ix4 0 b s c) = P (ix3 b s ⟨6144 + c.val, by omega⟩) := by
  pointwise [PIECE6]

/-- A turned first half at an index. -/
theorem first_at (H : FVec Ideal S8x8x2048x128 .f32) (A B : FVec Ideal S2048x64 .f32) (b h : Fin 8) (s : Fin 2048) (d : Fin 64) :
    FIRST H A B (ix4 b h s d) = H (ix4 b h s ⟨d.val, by omega⟩) * A (ix2 s d) - H (ix4 b h s ⟨64 + d.val, by omega⟩) * B (ix2 s d) := by
  pointwise [FIRST]

/-- A turned second half at an index. -/
theorem second_at (H : FVec Ideal S8x8x2048x128 .f32) (A B : FVec Ideal S2048x64 .f32) (b h : Fin 8) (s : Fin 2048) (d : Fin 64) :
    SECOND H A B (ix4 b h s d) = H (ix4 b h s ⟨64 + d.val, by omega⟩) * A (ix2 s d) + H (ix4 b h s ⟨d.val, by omega⟩) * B (ix2 s d) := by
  pointwise [SECOND]

/-- A turned head at an index. -/
theorem turn_at (H : FVec Ideal S8x8x2048x128 .f32) (A B : FVec Ideal S2048x64 .f32) (b h : Fin 8) (s : Fin 2048) (d : Fin 128) :
    TURN H A B (ix4 b h s d) = if hd : d.val < 64 then FIRST H A B (ix4 b h s ⟨d.val, hd⟩) else SECOND H A B (ix4 b h s ⟨d.val - 64, by omega⟩) := by
  pointwise [TURN]

/-- The cosines at an index. -/
theorem cos_at (s : Fin 2048) (d : Fin 64) : COS (ix2 s d) = Ideal.cos (angle s d) := by
  pointwise [COS, angle]

/-- The sines at an index. -/
theorem sin_at (s : Fin 2048) (d : Fin 64) : SIN (ix2 s d) = Ideal.sin (angle s d) := by
  pointwise [SIN, angle]

/-- A head's entry is a column's. -/
theorem heads_at (G : FVec Ideal S8x2048x1024 .f32) (b h : Fin 8) (s : Fin 2048) (d : Fin 128) :
    HEADS G (ix4 b h s d) = G (ix3 b s ⟨h.val * 128 + d.val, by omega⟩) := by
  pointwise [HEADS]

/-- A column of the group at an index. -/
theorem cols3_at (P : FVec Ideal S8x2048x7168 .f32) (b : Fin 8) (s : Fin 2048) (c : Fin 1024) :
    COLS3 P (ix3 b s c) = P (ix3 b s ⟨3072 + c.val, by omega⟩) := by
  pointwise [COLS3]

/-- A column of the group at an index. -/
theorem cols4_at (P : FVec Ideal S8x2048x7168 .f32) (b : Fin 8) (s : Fin 2048) (c : Fin 1024) :
    COLS4 P (ix3 b s c) = P (ix3 b s ⟨4096 + c.val, by omega⟩) := by
  pointwise [COLS4]

/-- Heads laid side by side, at an index. -/
theorem merge_at (T : FVec Ideal S8x8x2048x128 .f32) (b : Fin 8) (s : Fin 2048) (c : Fin 1024) :
    MERGE T (ix4 0 b s c) = T (ix4 b ⟨c.val / 128, by omega⟩ s ⟨c.val % 128, by omega⟩) := by
  pointwise [MERGE]

/-- Turned heads laid side by side, at an index. -/
theorem group_at (G : FVec Ideal S8x2048x1024 .f32) (b : Fin 8) (s : Fin 2048) (c : Fin 1024) :
    MERGE (TURN (HEADS G) COS SIN) (ix4 0 b s c) = headTurn (fun c => G (ix3 b s c)) (cosT s) (sinT s) c := by
  rw [merge_at, turn_at]
  simp only [first_at, second_at, heads_at, cos_at, sin_at]
  refine Eq.trans ?_ (turn_split (fun c => G (ix3 b s c)) s c)
  have e : c.val / 128 * 128 + c.val % 128 = c.val := by omega
  simp only [e]

/-- The queries of the retention at an index. -/
theorem piece3_at (P : FVec Ideal S8x2048x7168 .f32) (b : Fin 8) (s : Fin 2048) (c : Fin 1024) :
    PIECE3 P (ix4 0 b s c) = headTurn (fun c => P (ix3 b s ⟨3072 + c.val, by omega⟩)) (fun d => cosT s d) (fun d => sinT s d) c := by
  unfold PIECE3
  rw [group_at]
  simp only [cols3_at]

/-- The keys of the retention at an index. -/
theorem piece4_at (P : FVec Ideal S8x2048x7168 .f32) (b : Fin 8) (s : Fin 2048) (c : Fin 1024) :
    PIECE4 P (ix4 0 b s c) = headTurn (fun c => P (ix3 b s ⟨4096 + c.val, by omega⟩)) (fun d => cosT s d) (fun d => sinT s d) c := by
  unfold PIECE4
  rw [group_at]
  simp only [cols4_at]

end Cert.InReferenceIdeal.Inproj
-- ==== Proof.Inproj.Stack.lean ====
module

public import proofs.«01_k».proof.Proof.Inproj.RefAt

@[expose] public section

set_option maxRecDepth 16384

noncomputable section

namespace Cert.InReferenceIdeal.Inproj

open Idealize.ShloMosaic Idealize.ShloMosaic.TcCoe Idealize.SL.Sem
open Cert.Inproj Cert.InReferenceIdeal Cert.InReferenceIdeal.Gen Cert.InReferenceIdeal.Value

/-- The stack's group 0, at an index. -/
theorem stack0_at (p0 p1 p2 p3 p4 p5 p6 : FVec Ideal S1x8x2048x1024 .f32) (g : Fin 7) (hg : g.val = 0) (r : Fin 16384) (c : Fin 1024) :
    STACK p0 p1 p2 p3 p4 p5 p6 (ix3 g r c) = p0 (ix4 0 ⟨r.val / 2048, by omega⟩ ⟨r.val % 2048, by omega⟩ c) := by
  obtain rfl : g = 0 := Fin.ext hg
  pointwise [STACK]

/-- The stack's group 1, at an index. -/
theorem stack1_at (p0 p1 p2 p3 p4 p5 p6 : FVec Ideal S1x8x2048x1024 .f32) (g : Fin 7) (hg : g.val = 1) (r : Fin 16384) (c : Fin 1024) :
    STACK p0 p1 p2 p3 p4 p5 p6 (ix3 g r c) = p1 (ix4 0 ⟨r.val / 2048, by omega⟩ ⟨r.val % 2048, by omega⟩ c) := by
  obtain rfl : g = 1 := Fin.ext hg
  pointwise [STACK]

/-- The stack's group 2, at an index. -/
theorem stack2_at (p0 p1 p2 p3 p4 p5 p6 : FVec Ideal S1x8x2048x1024 .f32) (g : Fin 7) (hg : g.val = 2) (r : Fin 16384) (c : Fin 1024) :
    STACK p0 p1 p2 p3 p4 p5 p6 (ix3 g r c) = p2 (ix4 0 ⟨r.val / 2048, by omega⟩ ⟨r.val % 2048, by omega⟩ c) := by
  obtain rfl : g = 2 := Fin.ext hg
  pointwise [STACK]

/-- The stack's group 3, at an index. -/
theorem stack3_at (p0 p1 p2 p3 p4 p5 p6 : FVec Ideal S1x8x2048x1024 .f32) (g : Fin 7) (hg : g.val = 3) (r : Fin 16384) (c : Fin 1024) :
    STACK p0 p1 p2 p3 p4 p5 p6 (ix3 g r c) = p3 (ix4 0 ⟨r.val / 2048, by omega⟩ ⟨r.val % 2048, by omega⟩ c) := by
  obtain rfl : g = 3 := Fin.ext hg
  pointwise [STACK]

/-- The stack's group 4, at an index. -/
theorem stack4_at (p0 p1 p2 p3 p4 p5 p6 : FVec Ideal S1x8x2048x1024 .f32) (g : Fin 7) (hg : g.val = 4) (r : Fin 16384) (c : Fin 1024) :
    STACK p0 p1 p2 p3 p4 p5 p6 (ix3 g r c) = p4 (ix4 0 ⟨r.val / 2048, by omega⟩ ⟨r.val % 2048, by omega⟩ c) := by
  obtain rfl : g = 4 := Fin.ext hg
  pointwise [STACK]

/-- The stack's group 5, at an index. -/
theorem stack5_at (p0 p1 p2 p3 p4 p5 p6 : FVec Ideal S1x8x2048x1024 .f32) (g : Fin 7) (hg : g.val = 5) (r : Fin 16384) (c : Fin 1024) :
    STACK p0 p1 p2 p3 p4 p5 p6 (ix3 g r c) = p5 (ix4 0 ⟨r.val / 2048, by omega⟩ ⟨r.val % 2048, by omega⟩ c) := by
  obtain rfl : g = 5 := Fin.ext hg
  pointwise [STACK]

/-- The stack's group 6, at an index. -/
theorem stack6_at (p0 p1 p2 p3 p4 p5 p6 : FVec Ideal S1x8x2048x1024 .f32) (g : Fin 7) (hg : g.val = 6) (r : Fin 16384) (c : Fin 1024) :
    STACK p0 p1 p2 p3 p4 p5 p6 (ix3 g r c) = p6 (ix4 0 ⟨r.val / 2048, by omega⟩ ⟨r.val % 2048, by omega⟩ c) := by
  obtain rfl : g = 6 := Fin.ext hg
  pointwise [STACK]

/-- The reference's group 0 at an index. -/
theorem ref0_at (X : FVec Ideal S8x2048x2048 .f32) (N : FVec Ideal S4x2048 .f32) (W : FVec Ideal S4x2048x7168 .f32) (QG : FVec Ideal S4x128 .f32) (KG : FVec Ideal S4x128 .f32) (g : Fin 7) (hg : g.val = 0) (r : Fin 16384) (c : Fin 1024)
    (b : Fin 8) (s : Fin 2048) (hb : b.val = r.val / 2048) (hs : s.val = r.val % 2048) :
    REF X N W QG KG (ix3 g r c) = headNorm (fun c => PROJ X N W (ix3 b s ⟨0 + c.val, by omega⟩)) (fun d => QG (ix2 0 d)) c := by
  have eb : r.val / 2048 < 8 := hb ▸ b.isLt
  have es : r.val % 2048 < 2048 := hs ▸ s.isLt
  obtain rfl : b = ⟨r.val / 2048, eb⟩ := Fin.ext hb
  obtain rfl : s = ⟨r.val % 2048, es⟩ := Fin.ext hs
  unfold REF
  exact (stack0_at _ _ _ _ _ _ _ g hg r c).trans (piece0_at ..)

/-- The reference's group 1 at an index. -/
theorem ref1_at (X : FVec Ideal S8x2048x2048 .f32) (N : FVec Ideal S4x2048 .f32) (W : FVec Ideal S4x2048x7168 .f32) (QG : FVec Ideal S4x128 .f32) (KG : FVec Ideal S4x128 .f32) (g : Fin 7) (hg : g.val = 1) (r : Fin 16384) (c : Fin 1024)
    (b : Fin 8) (s : Fin 2048) (hb : b.val = r.val / 2048) (hs : s.val = r.val % 2048) :
    REF X N W QG KG (ix3 g r c) = headNorm (fun c => PROJ X N W (ix3 b s ⟨1024 + c.val, by omega⟩)) (fun d => KG (ix2 0 d)) c := by
  have eb : r.val / 2048 < 8 := hb ▸ b.isLt
  have es : r.val % 2048 < 2048 := hs ▸ s.isLt
  obtain rfl : b = ⟨r.val / 2048, eb⟩ := Fin.ext hb
  obtain rfl : s = ⟨r.val % 2048, es⟩ := Fin.ext hs
  unfold REF
  exact (stack1_at _ _ _ _ _ _ _ g hg r c).trans (piece1_at ..)

/-- The reference's group 2 at an index. -/
theorem ref2_at (X : FVec Ideal S8x2048x2048 .f32) (N : FVec Ideal S4x2048 .f32) (W : FVec Ideal S4x2048x7168 .f32) (QG : FVec Ideal S4x128 .f32) (KG : FVec Ideal S4x128 .f32) (g : Fin 7) (hg : g.val = 2) (r : Fin 16384) (c : Fin 1024)
    (b : Fin 8) (s : Fin 2048) (hb : b.val = r.val / 2048) (hs : s.val = r.val % 2048) :
    REF X N W QG KG (ix3 g r c) = PROJ X N W (ix3 b s ⟨2048 + c.val, by omega⟩) := by
  have eb : r.val / 2048 < 8 := hb ▸ b.isLt
  have es : r.val % 2048 < 2048 := hs ▸ s.isLt
  obtain rfl : b = ⟨r.val / 2048, eb⟩ := Fin.ext hb
  obtain rfl : s = ⟨r.val % 2048, es⟩ := Fin.ext hs
  unfold REF
  exact (stack2_at _ _ _ _ _ _ _ g hg r c).trans (piece2_at ..)

/-- The reference's group 3 at an index. -/
theorem ref3_at (X : FVec Ideal S8x2048x2048 .f32) (N : FVec Ideal S4x2048 .f32) (W : FVec Ideal S4x2048x7168 .f32) (QG : FVec Ideal S4x128 .f32) (KG : FVec Ideal S4x128 .f32) (g : Fin 7) (hg : g.val = 3) (r : Fin 16384) (c : Fin 1024)
    (b : Fin 8) (s : Fin 2048) (hb : b.val = r.val / 2048) (hs : s.val = r.val % 2048) :
    REF X N W QG KG (ix3 g r c) = headTurn (fun c => PROJ X N W (ix3 b s ⟨3072 + c.val, by omega⟩)) (fun d => cosT s d) (fun d => sinT s d) c := by
  have eb : r.val / 2048 < 8 := hb ▸ b.isLt
  have es : r.val % 2048 < 2048 := hs ▸ s.isLt
  obtain rfl : b = ⟨r.val / 2048, eb⟩ := Fin.ext hb
  obtain rfl : s = ⟨r.val % 2048, es⟩ := Fin.ext hs
  unfold REF
  exact (stack3_at _ _ _ _ _ _ _ g hg r c).trans (piece3_at ..)

/-- The reference's group 4 at an index. -/
theorem ref4_at (X : FVec Ideal S8x2048x2048 .f32) (N : FVec Ideal S4x2048 .f32) (W : FVec Ideal S4x2048x7168 .f32) (QG : FVec Ideal S4x128 .f32) (KG : FVec Ideal S4x128 .f32) (g : Fin 7) (hg : g.val = 4) (r : Fin 16384) (c : Fin 1024)
    (b : Fin 8) (s : Fin 2048) (hb : b.val = r.val / 2048) (hs : s.val = r.val % 2048) :
    REF X N W QG KG (ix3 g r c) = headTurn (fun c => PROJ X N W (ix3 b s ⟨4096 + c.val, by omega⟩)) (fun d => cosT s d) (fun d => sinT s d) c := by
  have eb : r.val / 2048 < 8 := hb ▸ b.isLt
  have es : r.val % 2048 < 2048 := hs ▸ s.isLt
  obtain rfl : b = ⟨r.val / 2048, eb⟩ := Fin.ext hb
  obtain rfl : s = ⟨r.val % 2048, es⟩ := Fin.ext hs
  unfold REF
  exact (stack4_at _ _ _ _ _ _ _ g hg r c).trans (piece4_at ..)

/-- The reference's group 5 at an index. -/
theorem ref5_at (X : FVec Ideal S8x2048x2048 .f32) (N : FVec Ideal S4x2048 .f32) (W : FVec Ideal S4x2048x7168 .f32) (QG : FVec Ideal S4x128 .f32) (KG : FVec Ideal S4x128 .f32) (g : Fin 7) (hg : g.val = 5) (r : Fin 16384) (c : Fin 1024)
    (b : Fin 8) (s : Fin 2048) (hb : b.val = r.val / 2048) (hs : s.val = r.val % 2048) :
    REF X N W QG KG (ix3 g r c) = PROJ X N W (ix3 b s ⟨5120 + c.val, by omega⟩) := by
  have eb : r.val / 2048 < 8 := hb ▸ b.isLt
  have es : r.val % 2048 < 2048 := hs ▸ s.isLt
  obtain rfl : b = ⟨r.val / 2048, eb⟩ := Fin.ext hb
  obtain rfl : s = ⟨r.val % 2048, es⟩ := Fin.ext hs
  unfold REF
  exact (stack5_at _ _ _ _ _ _ _ g hg r c).trans (piece5_at ..)

/-- The reference's group 6 at an index. -/
theorem ref6_at (X : FVec Ideal S8x2048x2048 .f32) (N : FVec Ideal S4x2048 .f32) (W : FVec Ideal S4x2048x7168 .f32) (QG : FVec Ideal S4x128 .f32) (KG : FVec Ideal S4x128 .f32) (g : Fin 7) (hg : g.val = 6) (r : Fin 16384) (c : Fin 1024)
    (b : Fin 8) (s : Fin 2048) (hb : b.val = r.val / 2048) (hs : s.val = r.val % 2048) :
    REF X N W QG KG (ix3 g r c) = PROJ X N W (ix3 b s ⟨6144 + c.val, by omega⟩) := by
  have eb : r.val / 2048 < 8 := hb ▸ b.isLt
  have es : r.val % 2048 < 2048 := hs ▸ s.isLt
  obtain rfl : b = ⟨r.val / 2048, eb⟩ := Fin.ext hb
  obtain rfl : s = ⟨r.val % 2048, es⟩ := Fin.ext hs
  unfold REF
  exact (stack6_at _ _ _ _ _ _ _ g hg r c).trans (piece6_at ..)

end Cert.InReferenceIdeal.Inproj
-- ==== Proof.Inproj.Point.lean ====
module

public import proofs.«01_k».proof.Proof.Inproj.Entry
public import proofs.«01_k».proof.Proof.Inproj.RefAt
public import proofs.«01_k».proof.Proof.Inproj.Stack

@[expose] public section

set_option maxRecDepth 16384

noncomputable section

namespace Cert.InKernelIdeal.Inproj

open Idealize.ShloMosaic Idealize.ShloMosaic.TcCoe Idealize.SL.Sem
open Cert.Inproj Cert.InKernelIdeal Cert.InKernelIdeal.Gen
open Cert.InReferenceIdeal.Inproj (PROJ REF STACK proj_at)

variable (m : (ℓ : Loc nD τ sig) → Buf (Elt Ideal) ℓ)

/-- The product of the normalised rows and the weights a point shows is the reference's projection. -/
theorem proj_block (c : Dev nD) (t : Fin cfg0.N) (hn : Vec Ideal S1024x2048 .bf16)
    (hh : ∀ y, hn y = rows m c t (y 0) (y 1)) (r d : Fin 1024) (b : Fin 8) (s : Fin 2048) (e : Fin 7168)
    (hr : t.val / 7 * 1024 + r.val = b.val * 2048 + s.val) (he : e.val = 1024 * (t.val % 7) + d.val) :
    dotV hn (iblk m c 2 t) r d
      = PROJ (m ((c : Thread nD τ).loc main_arg0)) (m ((c : Thread nD τ).loc main_arg1)) (m ((c : Thread nD τ).loc main_arg2)) (ix3 b s e) := by
  rw [proj_at]
  unfold dotV
  refine Finset.sum_congr rfl fun k _ => ?_
  refine Ideal.mul_congr ((hh (ix2 r k)).trans ?_) (block2 m c t k d e he)
  unfold rows
  have e0 : (fun k => (show FVec Ideal S1024x2048 .f32 from iblk m c 0 t) (ix2 r k))
      = fun k => (show FVec Ideal S8x2048x2048 .f32 from m ((c : Thread nD τ).loc main_arg0)) (ix3 b s k) :=
    funext fun k => block0 m c t r k b s hr
  have e1 : (fun k => (show FVec Ideal S1x2048 .f32 from iblk m c 1 t) (ix2 0 k))
      = fun k => (show FVec Ideal S4x2048 .f32 from m ((c : Thread nD τ).loc main_arg1)) (ix2 0 k) :=
    funext fun k => block1 m c t k
  exact congrArg₂ (fun a b => rowNorm a b k) e0 e1

/-- The rows normalised at a point of the queries' group, at an index. -/
theorem rows_at (c : Dev nD) (t : Fin cfg0.N) (y : S1024x2048.Idx) :
    k0_pay1 (F := Ideal) (iblk m c 0 t) (iblk m c 1 t) y = rows m c t (y 0) (y 1) := by
  idx_vars y
  pointwise [k0_pay1]
  rfl

/-- What a point of group 0 leaves in its block is the reference's result there. -/
theorem point0 (c : Dev nD) (t : Fin cfg0.N) (h : t.val % 7 = 0) (i d : Fin 1024) (g : Fin 7) (r : Fin 16384)
    (hg : g.val = t.val % 7) (hr : r.val = t.val / 7 * 1024 + i.val) :
    (outsAt0 m c t.val t.isLt).1 (ix3 0 i d) = (REF (m ((c : Thread nD τ).loc main_arg0)) (m ((c : Thread nD τ).loc main_arg1)) (m ((c : Thread nD τ).loc main_arg2)) (m ((c : Thread nD τ).loc main_arg3)) (m ((c : Thread nD τ).loc main_arg4))) (ix3 g r d) := by
  have hN : t.val < 112 := lt_of_lt_of_eq t.isLt (show cfg0.N = 112 from N_0)
  obtain ⟨b, hb⟩ : ∃ b : Fin 8, b.val = r.val / 2048 := ⟨⟨r.val / 2048, by omega⟩, rfl⟩
  obtain ⟨s, hs⟩ : ∃ s : Fin 2048, s.val = r.val % 2048 := ⟨⟨r.val % 2048, by omega⟩, rfl⟩
  refine Eq.trans ?_ (Cert.InReferenceIdeal.Inproj.ref0_at _ _ _ _ _ g (by omega) r d b s hb hs).symm
  rw [outsAt0_A m c t h h (by omega) (by omega) (by omega)]
  dsimp only
  refine (norm_A (y := ix3 0 i d) ..).trans ?_
  exact congrArg₂ (fun p q => headNorm p q d) (funext fun e => proj_block m c t _ (rows_at m c t) i e b s _ (by omega) (by dsimp only; omega))
    (funext fun e => block3 m c t e)

/-- What a point of group 1 leaves in its block is the reference's result there. -/
theorem point1 (c : Dev nD) (t : Fin cfg0.N) (h : t.val % 7 = 1) (i d : Fin 1024) (g : Fin 7) (r : Fin 16384)
    (hg : g.val = t.val % 7) (hr : r.val = t.val / 7 * 1024 + i.val) :
    (outsAt0 m c t.val t.isLt).1 (ix3 0 i d) = (REF (m ((c : Thread nD τ).loc main_arg0)) (m ((c : Thread nD τ).loc main_arg1)) (m ((c : Thread nD τ).loc main_arg2)) (m ((c : Thread nD τ).loc main_arg3)) (m ((c : Thread nD τ).loc main_arg4))) (ix3 g r d) := by
  have hN : t.val < 112 := lt_of_lt_of_eq t.isLt (show cfg0.N = 112 from N_0)
  obtain ⟨b, hb⟩ : ∃ b : Fin 8, b.val = r.val / 2048 := ⟨⟨r.val / 2048, by omega⟩, rfl⟩
  obtain ⟨s, hs⟩ : ∃ s : Fin 2048, s.val = r.val % 2048 := ⟨⟨r.val % 2048, by omega⟩, rfl⟩
  refine Eq.trans ?_ (Cert.InReferenceIdeal.Inproj.ref1_at _ _ _ _ _ g (by omega) r d b s hb hs).symm
  rw [outsAt0_B m c t (by omega) (by omega) h (by omega) (by omega)]
  dsimp only
  refine (norm_B (y := ix3 0 i d) ..).trans ?_
  exact congrArg₂ (fun p q => headNorm p q d) (funext fun e => proj_block m c t _ (scratch_before m c t (by omega)) i e b s _ (by omega) (by dsimp only; omega))
    (funext fun e => block4 m c t e)

/-- What a point of group 2 leaves in its block is the reference's result there. -/
theorem point2 (c : Dev nD) (t : Fin cfg0.N) (h : t.val % 7 = 2) (i d : Fin 1024) (g : Fin 7) (r : Fin 16384)
    (hg : g.val = t.val % 7) (hr : r.val = t.val / 7 * 1024 + i.val) :
    (outsAt0 m c t.val t.isLt).1 (ix3 0 i d) = (REF (m ((c : Thread nD τ).loc main_arg0)) (m ((c : Thread nD τ).loc main_arg1)) (m ((c : Thread nD τ).loc main_arg2)) (m ((c : Thread nD τ).loc main_arg3)) (m ((c : Thread nD τ).loc main_arg4))) (ix3 g r d) := by
  have hN : t.val < 112 := lt_of_lt_of_eq t.isLt (show cfg0.N = 112 from N_0)
  obtain ⟨b, hb⟩ : ∃ b : Fin 8, b.val = r.val / 2048 := ⟨⟨r.val / 2048, by omega⟩, rfl⟩
  obtain ⟨s, hs⟩ : ∃ s : Fin 2048, s.val = r.val % 2048 := ⟨⟨r.val % 2048, by omega⟩, rfl⟩
  refine Eq.trans ?_ (Cert.InReferenceIdeal.Inproj.ref2_at _ _ _ _ _ g (by omega) r d b s hb hs).symm
  rw [outsAt0_C m c t (by omega) (by omega) (by omega) (by omega) (by omega)]
  dsimp only
  refine (plain_C (y := ix3 0 i d) ..).trans ?_
  exact proj_block m c t _ (scratch_before m c t (by omega)) i d b s _ (by omega) (by dsimp only; omega)

/-- What a point of group 3 leaves in its block is the reference's result there. -/
theorem point3 (c : Dev nD) (t : Fin cfg0.N) (h : t.val % 7 = 3) (i d : Fin 1024) (g : Fin 7) (r : Fin 16384)
    (hg : g.val = t.val % 7) (hr : r.val = t.val / 7 * 1024 + i.val) :
    (outsAt0 m c t.val t.isLt).1 (ix3 0 i d) = (REF (m ((c : Thread nD τ).loc main_arg0)) (m ((c : Thread nD τ).loc main_arg1)) (m ((c : Thread nD τ).loc main_arg2)) (m ((c : Thread nD τ).loc main_arg3)) (m ((c : Thread nD τ).loc main_arg4))) (ix3 g r d) := by
  have hN : t.val < 112 := lt_of_lt_of_eq t.isLt (show cfg0.N = 112 from N_0)
  obtain ⟨b, hb⟩ : ∃ b : Fin 8, b.val = r.val / 2048 := ⟨⟨r.val / 2048, by omega⟩, rfl⟩
  obtain ⟨s, hs⟩ : ∃ s : Fin 2048, s.val = r.val % 2048 := ⟨⟨r.val % 2048, by omega⟩, rfl⟩
  refine Eq.trans ?_ (Cert.InReferenceIdeal.Inproj.ref3_at _ _ _ _ _ g (by omega) r d b s hb hs).symm
  rw [outsAt0_D m c t (by omega) (by omega) (by omega) (by omega) (by omega)]
  dsimp only
  refine (turn_D (y := ix3 0 i d) ..).trans ?_
  refine congrFun (congr (congr (congrArg headTurn (funext fun e => proj_block m c t _ (scratch_before m c t (by omega)) i e b s _ (by omega) (by dsimp only; omega)))
    (funext fun e => block5 m c t i e s (by omega))) (funext fun e => block6 m c t i e s (by omega))) d

/-- What a point of group 4 leaves in its block is the reference's result there. -/
theorem point4 (c : Dev nD) (t : Fin cfg0.N) (h : t.val % 7 = 4) (i d : Fin 1024) (g : Fin 7) (r : Fin 16384)
    (hg : g.val = t.val % 7) (hr : r.val = t.val / 7 * 1024 + i.val) :
    (outsAt0 m c t.val t.isLt).1 (ix3 0 i d) = (REF (m ((c : Thread nD τ).loc main_arg0)) (m ((c : Thread nD τ).loc main_arg1)) (m ((c : Thread nD τ).loc main_arg2)) (m ((c : Thread nD τ).loc main_arg3)) (m ((c : Thread nD τ).loc main_arg4))) (ix3 g r d) := by
  have hN : t.val < 112 := lt_of_lt_of_eq t.isLt (show cfg0.N = 112 from N_0)
  obtain ⟨b, hb⟩ : ∃ b : Fin 8, b.val = r.val / 2048 := ⟨⟨r.val / 2048, by omega⟩, rfl⟩
  obtain ⟨s, hs⟩ : ∃ s : Fin 2048, s.val = r.val % 2048 := ⟨⟨r.val % 2048, by omega⟩, rfl⟩
  refine Eq.trans ?_ (Cert.InReferenceIdeal.Inproj.ref4_at _ _ _ _ _ g (by omega) r d b s hb hs).symm
  rw [outsAt0_D m c t (by omega) (by omega) (by omega) (by omega) (by omega)]
  dsimp only
  refine (turn_D (y := ix3 0 i d) ..).trans ?_
  refine congrFun (congr (congr (congrArg headTurn (funext fun e => proj_block m c t _ (scratch_before m c t (by omega)) i e b s _ (by omega) (by dsimp only; omega)))
    (funext fun e => block5 m c t i e s (by omega))) (funext fun e => block6 m c t i e s (by omega))) d

/-- What a point of group 5 leaves in its block is the reference's result there. -/
theorem point5 (c : Dev nD) (t : Fin cfg0.N) (h : t.val % 7 = 5) (i d : Fin 1024) (g : Fin 7) (r : Fin 16384)
    (hg : g.val = t.val % 7) (hr : r.val = t.val / 7 * 1024 + i.val) :
    (outsAt0 m c t.val t.isLt).1 (ix3 0 i d) = (REF (m ((c : Thread nD τ).loc main_arg0)) (m ((c : Thread nD τ).loc main_arg1)) (m ((c : Thread nD τ).loc main_arg2)) (m ((c : Thread nD τ).loc main_arg3)) (m ((c : Thread nD τ).loc main_arg4))) (ix3 g r d) := by
  have hN : t.val < 112 := lt_of_lt_of_eq t.isLt (show cfg0.N = 112 from N_0)
  obtain ⟨b, hb⟩ : ∃ b : Fin 8, b.val = r.val / 2048 := ⟨⟨r.val / 2048, by omega⟩, rfl⟩
  obtain ⟨s, hs⟩ : ∃ s : Fin 2048, s.val = r.val % 2048 := ⟨⟨r.val % 2048, by omega⟩, rfl⟩
  refine Eq.trans ?_ (Cert.InReferenceIdeal.Inproj.ref5_at _ _ _ _ _ g (by omega) r d b s hb hs).symm
  rw [outsAt0_C m c t (by omega) (by omega) (by omega) (by omega) (by omega)]
  dsimp only
  refine (plain_C (y := ix3 0 i d) ..).trans ?_
  exact proj_block m c t _ (scratch_before m c t (by omega)) i d b s _ (by omega) (by dsimp only; omega)

/-- What a point of group 6 leaves in its block is the reference's result there. -/
theorem point6 (c : Dev nD) (t : Fin cfg0.N) (h : t.val % 7 = 6) (i d : Fin 1024) (g : Fin 7) (r : Fin 16384)
    (hg : g.val = t.val % 7) (hr : r.val = t.val / 7 * 1024 + i.val) :
    (outsAt0 m c t.val t.isLt).1 (ix3 0 i d) = (REF (m ((c : Thread nD τ).loc main_arg0)) (m ((c : Thread nD τ).loc main_arg1)) (m ((c : Thread nD τ).loc main_arg2)) (m ((c : Thread nD τ).loc main_arg3)) (m ((c : Thread nD τ).loc main_arg4))) (ix3 g r d) := by
  have hN : t.val < 112 := lt_of_lt_of_eq t.isLt (show cfg0.N = 112 from N_0)
  obtain ⟨b, hb⟩ : ∃ b : Fin 8, b.val = r.val / 2048 := ⟨⟨r.val / 2048, by omega⟩, rfl⟩
  obtain ⟨s, hs⟩ : ∃ s : Fin 2048, s.val = r.val % 2048 := ⟨⟨r.val % 2048, by omega⟩, rfl⟩
  refine Eq.trans ?_ (Cert.InReferenceIdeal.Inproj.ref6_at _ _ _ _ _ g (by omega) r d b s hb hs).symm
  rw [outsAt0_C m c t (by omega) (by omega) (by omega) (by omega) (by omega)]
  dsimp only
  refine (plain_C (y := ix3 0 i d) ..).trans ?_
  exact proj_block m c t _ (scratch_before m c t (by omega)) i d b s _ (by omega) (by dsimp only; omega)

end Cert.InKernelIdeal.Inproj
-- ==== Proof.Inproj.Final.lean ====
module

public import proofs.«01_k».proof.Proof.Inproj.Point

@[expose] public section

set_option maxRecDepth 16384

noncomputable section

namespace Cert.InKernelIdeal.Inproj

open Idealize.ShloMosaic Idealize.ShloMosaic.TcCoe Idealize.SL.Sem
open Cert.Inproj Cert.InKernelIdeal Cert.InKernelIdeal.Gen
open Cert.InReferenceIdeal.Inproj (PROJ REF STACK proj_at)

variable (m : (ℓ : Loc nD τ sig) → Buf (Elt Ideal) ℓ)

/-- The result array of the run is the reference's result. -/
theorem final (c : Dev nD) : (dats m 0 c).arrAt 7 (cfgs 0).N = (REF (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t _ y => ?_
  blk_simp
  rw [after0_7]
  obtain ⟨g, hg⟩ : ∃ g : Fin 7, g.val = t.val % 7 := ⟨⟨t.val % 7, by omega⟩, rfl⟩
  have hN : t.val < 112 := lt_of_lt_of_eq t.isLt (show cfg0.N = 112 from N_0)
  idx_vars y
  obtain rfl : y0 = 0 := Subsingleton.elim _ _
  obtain ⟨r, hr⟩ : ∃ r : Fin 16384, r.val = t.val / 7 * 1024 + y1.val := ⟨⟨t.val / 7 * 1024 + y1.val, by omega⟩, rfl⟩
  have e : ((View.whole main_v28).slice (win0_7.rect t)).emb (ix3 0 y1 y2) = ix3 g r y2 := by
    blk_ext [idx t]
  refine Eq.trans ?_ (congrArg _ e).symm
  have h7 : t.val % 7 = 0 ∨ t.val % 7 = 1 ∨ t.val % 7 = 2 ∨ t.val % 7 = 3 ∨ t.val % 7 = 4 ∨ t.val % 7 = 5 ∨ t.val % 7 = 6 := by
    omega
  rcases h7 with hk | hk | hk | hk | hk | hk | hk
  · exact point0 m c t hk y1 y2 g r hg hr
  · exact point1 m c t hk y1 y2 g r hg hr
  · exact point2 m c t hk y1 y2 g r hg hr
  · exact point3 m c t hk y1 y2 g r hg hr
  · exact point4 m c t hk y1 y2 g r hg hr
  · exact point5 m c t hk y1 y2 g r hg hr
  · exact point6 m c t hk y1 y2 g r hg hr

end Cert.InKernelIdeal.Inproj
-- ==== Proof.Inproj.Claim.lean ====
module

public import proofs.«01_k».proof.Defs
public import proofs.«01_k».proof.Proof.Inproj.Final
public import Idealize.ShloMosaic.Lib.Claim

@[expose] public section

set_option maxRecDepth 16384

noncomputable section

namespace Cert.Proof

open Idealize.ShloMosaic Idealize.SL.Sem

set_option maxHeartbeats 1600000 in
/-- The input projection and its reference end with equal results, as extended reals. -/
theorem algebraic_in : Cert.algebraic_InKernelIdeal_InReferenceIdeal := by
  pair_intro
  · run_from Cert.InKernelIdeal.Gen.run_main m g
  · run_from Cert.InReferenceIdeal.Value.run m' g'
    refine (Cert.InReferenceIdeal.Inproj.res_eq m' c).trans ?_
    obtain ⟨h0, h1, h2, h3, h4⟩ := hagree c
    rw [h0, h1, h2, h3, h4]
    exact (Cert.InKernelIdeal.Inproj.final m c).symm

end Cert.Proof

end
-- ==== Proof.Outproj.Blocks.lean ====
module

public import proofs.«01_k».proof.Proof.Gen.OutKernelIdeal.Value
public import proofs.«01_k».proof.Proof.Inproj.Terms
public import Idealize.ShloMosaic.Lib.Pipeline.ValueKit
public import Idealize.ShloMosaic.Lib.Pointwise

@[expose] public section

set_option maxRecDepth 16384

noncomputable section

namespace Cert.OutKernelIdeal.Outproj

open Idealize.ShloMosaic Idealize.ShloMosaic.TcCoe Idealize.SL.Sem
open Cert.Inproj Cert.OutKernelIdeal Cert.OutKernelIdeal.Gen

/-- One entry of the input plus the two products. -/
def sumV (x0 : Vec Ideal S512x2048 .f32) (x1 x2 : Vec Ideal S512x1024 .bf16) (x3 x4 : Vec Ideal S1x1024x2048 .bf16) (r : Fin 512) (c : Fin 2048) : EReal :=
  (show EReal from x0 (ix2 r c)) + (∑ k : Fin 1024, (show EReal from x1 (ix2 r k)) * (show EReal from x3 (ix3 0 k c)))
    + ∑ k : Fin 1024, (show EReal from x2 (ix2 r k)) * (show EReal from x4 (ix3 0 k c))

/-- The entry, at indices given by their values. -/
theorem sum_close (x0 : Vec Ideal S512x2048 .f32) (x1 x2 : Vec Ideal S512x1024 .bf16) (x3 x4 : Vec Ideal S1x1024x2048 .bf16) (r r' : Fin 512) (c c' : Fin 2048)
    (hr : r'.val = r.val) (hc : c'.val = c.val) : sumV x0 x1 x2 x3 x4 r c = sumV x0 x1 x2 x3 x4 r' c' := by
  obtain rfl := Fin.ext hr
  obtain rfl := Fin.ext hc
  rfl

/-- What a point stores of the first sum. -/
theorem sum_A (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1x1024x2048 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x0 : Vec Ideal S512x2048 .f32) (x1 : Vec Ideal S512x1024 .bf16) (x2 : Vec Ideal S512x1024 .bf16) (x3 : Vec Ideal S1x1024x2048 .bf16) (x4 : Vec Ideal S1x1024x2048 .bf16) (x5 : Vec Ideal S1x2048 .f32) (y : S512x2048.Idx) :
    out0_A_6 c i arg1 harg1 arg2 harg2 arg3 harg3 arg4 harg4 arg5 harg5 arg6 harg6 arg7 harg7 arg8 harg8 x0 x1 x2 x3 x4 x5 y = sumV x0 x1 x2 x3 x4 (y 0) (y 1) := by
  unfold out0_A_6
  frame_out
  canon_tiles x h
  all_goals (open_payloads; pointwise)
  all_goals
    exact sum_close _ _ _ _ _ _ _ _ _ h0 (by first | omega | (dsimp only; omega))

/-- Reading back what the stores left and normalising it row by row. -/
theorem pay2_at {sig : RefSig} {κ : Kind} {sp : Space} (v : View sig κ sp S512x2048 .f32) (L : List (View.Piece (Elt Ideal) S512x2048 .f32))
    (hB) (x5 : Vec Ideal S1x2048 .f32) (X : Fin 512 → Fin 2048 → EReal) (h : ∀ y : S512x2048.Idx, View.canon L y = X (y 0) (y 1)) (y : S512x2048.Idx) :
    k0_pay2 (F := Ideal) (v.readCov L (Rect.unit (s := S512x2048) ![0, 0] ![512, 2048] hB).toLoadRect) x5 y
      = rowNorm (fun k => X (y 0) k) (fun k => x5 (ix2 0 k)) (y 1) := by
  have e : v.readCov L (Rect.unit (s := S512x2048) ![0, 0] ![512, 2048] hB).toLoadRect = fun z : S512x2048.Idx => X (z 0) (z 1) := by
    rw [View.readCov_eq_canon']
    funext z
    have ez : (Rect.unit (s := S512x2048) ![0, 0] ![512, 2048] hB).toLoadRect.idx z = z := by
      funext a
      fin_cases a <;> exact Fin.ext (by simp [LoadRect.idx])
    rw [ez]
    exact h z
  rw [e]
  idx_vars y
  pointwise [k0_pay2]
  rfl

/-- What a point stores of the normalised rows. -/
theorem norm_A (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1x1024x2048 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x0 : Vec Ideal S512x2048 .f32) (x1 : Vec Ideal S512x1024 .bf16) (x2 : Vec Ideal S512x1024 .bf16) (x3 : Vec Ideal S1x1024x2048 .bf16) (x4 : Vec Ideal S1x1024x2048 .bf16) (x5 : Vec Ideal S1x2048 .f32) (y : S512x2048.Idx) :
    out0_A_7 c i arg1 harg1 arg2 harg2 arg3 harg3 arg4 harg4 arg5 harg5 arg6 harg6 arg7 harg7 arg8 harg8 x0 x1 x2 x3 x4 x5 y = rowNorm (fun k => sumV x0 x1 x2 x3 x4 (y 0) k) (fun k => x5 (ix2 0 k)) (y 1) := by
  unfold out0_A_7
  frame_out
  refine pay2_at _ _ _ _ _ (fun z => ?_) y
  refine Eq.trans ?_ (sum_A c i arg1 harg1 arg2 harg2 arg3 harg3 arg4 harg4 arg5 harg5 arg6 harg6 arg7 harg7 arg8 harg8 x0 x1 x2 x3 x4 x5 z)
  unfold out0_A_6
  frame_out

end Cert.OutKernelIdeal.Outproj
-- ==== Proof.Outproj.Ref.lean ====
module

public import proofs.«01_k».proof.Proof.Gen.OutReferenceIdeal.Run
public import proofs.«01_k».proof.Proof.Inproj.Terms
public import Idealize.ShloMosaic.Lib.Pointwise

@[expose] public section

set_option maxRecDepth 16384

noncomputable section

namespace Cert.OutReferenceIdeal.Outproj

open Idealize.ShloMosaic Idealize.ShloMosaic.TcCoe Idealize.SL.Sem
open Cert.Inproj Cert.OutReferenceIdeal Cert.OutReferenceIdeal.Gen Cert.OutReferenceIdeal.Value

/-- The input plus the projected mixers. -/
def RES (X0 : FVec Ideal S8x2048x2048 .f32) (OA OR : FVec Ideal S8x2048x1024 .bf16) (W : FVec Ideal S4x2048x2048 .f32) : FVec Ideal S8x2048x2048 .f32 :=
  addf X0 (Host.dotGeneral dot_S8x2048x2048_S2048x2048_S8x2048x2048_2_0_01_1_n_n none (concatenate S8x2048x2048 2 [⟨S8x2048x1024, (extf .f32 OA bitsLt_bf16_f32)⟩, ⟨S8x2048x1024, (extf .f32 OR bitsLt_bf16_f32)⟩] concatenates_S8x2048x1024_S8x2048x1024_S8x2048x2048_d2) (shapeCast _ (extractStridedSlice S1x2048x2048 ![0, 0, 0] W slices_S4x2048x2048_S1x2048x2048_0_0_0) shapeCasts_S1x2048x2048_S2048x2048))

/-- The rows divided by their root mean square, times the gain. -/
def NRM (X : FVec Ideal S8x2048x2048 .f32) (G : FVec Ideal S4x2048 .f32) : FVec Ideal S8x2048x2048 .f32 :=
  mulf (mulf X (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf X X) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] G slices_S4x2048_S1x2048_0_0) shapeCasts_S1x2048_S2048)))

/-- All the rows, one below the other. -/
def FLAT (X : FVec Ideal S8x2048x2048 .f32) : FVec Ideal S16384x2048 .f32 := shapeCast _ X shapeCasts_S8x2048x2048_S16384x2048

/-- All the rows, one below the other, at the width of the result. -/
def FLATB (X : FVec Ideal S8x2048x2048 .f32) : FVec Ideal S16384x2048 .bf16 := truncf .bf16 (FLAT X) bitsLt_bf16_f32

/-- The first sum at an index: the input, plus the attention's part, plus the retention's. -/
theorem res_at (X0 : FVec Ideal S8x2048x2048 .f32) (OA OR : FVec Ideal S8x2048x1024 .bf16) (W : FVec Ideal S4x2048x2048 .f32) (b : Fin 8) (s : Fin 2048) (c : Fin 2048) :
    RES X0 OA OR W (ix3 b s c)
      = X0 (ix3 b s c) + (∑ k : Fin 1024, OA (ix3 b s k) * W (ix3 0 ⟨k.val, by omega⟩ c))
        + ∑ k : Fin 1024, OR (ix3 b s k) * W (ix3 0 ⟨1024 + k.val, by omega⟩ c) := by
  rw [add_assoc]
  pointwise [RES]

/-- The normalised rows at an index. -/
theorem nrm_at (X : FVec Ideal S8x2048x2048 .f32) (G : FVec Ideal S4x2048 .f32) (b : Fin 8) (s : Fin 2048) (c : Fin 2048) :
    NRM X G (ix3 b s c) = rowNorm (fun k => X (ix3 b s k)) (fun k => G (ix2 0 k)) c := by
  pointwise [NRM, rowNorm]

/-- A row of the rows laid one below the other. -/
theorem flat_at (X : FVec Ideal S8x2048x2048 .f32) (r : Fin 16384) (c : Fin 2048) (b : Fin 8) (s : Fin 2048)
    (h : r.val = b.val * 2048 + s.val) : FLAT X (ix2 r c) = X (ix3 b s c) := by
  have eb : b.val * 2048 + s.val < 16384 := h ▸ r.isLt
  obtain rfl : r = ⟨b.val * 2048 + s.val, eb⟩ := Fin.ext h
  pointwise [FLAT]

/-- The same at the width of the result. -/
theorem flatb_at (X : FVec Ideal S8x2048x2048 .f32) (r : Fin 16384) (c : Fin 2048) (b : Fin 8) (s : Fin 2048)
    (h : r.val = b.val * 2048 + s.val) : FLATB X (ix2 r c) = X (ix3 b s c) := flat_at X r c b s h

variable (m : (ℓ : Loc nD τ sig) → Buf (Elt Ideal) ℓ)

/-- The reference's two results, by these names. -/
theorem res_run (ρ : Dev nD → PrngReg) :
    θ_run defs (onTc (τ := τ) (main (F := Ideal))) ⟨m, fun _ => 0, ρ⟩ fun r => ∀ c : Dev nD,
      r.2.mem ((c.tc : Thread nD τ).loc main_v23) = FLAT (RES (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v24) = FLATB (NRM (RES (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4)) :=
  run m ρ

end Cert.OutReferenceIdeal.Outproj
-- ==== Proof.Outproj.Claim.lean ====
module

public import proofs.«01_k».proof.Defs
public import proofs.«01_k».proof.Proof.Outproj.Blocks
public import proofs.«01_k».proof.Proof.Outproj.Ref
public import Idealize.ShloMosaic.Lib.Claim

@[expose] public section

set_option maxRecDepth 16384

noncomputable section

namespace Cert.OutKernelIdeal.Outproj

open Idealize.ShloMosaic Idealize.ShloMosaic.TcCoe Idealize.SL.Sem
open Cert.Inproj Cert.OutKernelIdeal Cert.OutKernelIdeal.Gen
open Cert.OutReferenceIdeal.Outproj (RES NRM FLAT FLATB res_at nrm_at flat_at flatb_at)

variable (m : (ℓ : Loc nD τ sig) → Buf (Elt Ideal) ℓ)

/-- Which block of its array each window shows at a point. -/
theorem idx : ∀ t : Fin cfg0.N, win0_0.index t = ![t.val, 0] ∧ win0_1.index t = ![t.val, 0]
    ∧ win0_2.index t = ![t.val, 0] ∧ win0_3.index t = ![0, 0, 0] ∧ win0_4.index t = ![0, 1, 0]
    ∧ win0_5.index t = ![0, 0] ∧ win0_6.index t = ![t.val, 0] ∧ win0_7.index t = ![t.val, 0] :=
  (by decide +kernel : ∀ t : Fin grid0.N, _)

/-- The input's rows a point shows. -/
theorem block0 (c : Dev nD) (t : Fin cfg0.N) (r : Fin 512) (k : Fin 2048) (b : Fin 8) (s : Fin 2048)
    (h : t.val * 512 + r.val = b.val * 2048 + s.val) :
    (show FVec Ideal S512x2048 .f32 from iblk m c 0 t) (ix2 r k)
      = (show FVec Ideal S8x2048x2048 .f32 from (m ((c : Thread nD τ).loc main_arg0))) (ix3 b s k) := by
  blk_simp [iblk, idx t]
  entry_read
  pointwise
  blk_ext [idx t]

/-- The attention's rows a point shows. -/
theorem block1 (c : Dev nD) (t : Fin cfg0.N) (r : Fin 512) (k : Fin 1024) (b : Fin 8) (s : Fin 2048)
    (h : t.val * 512 + r.val = b.val * 2048 + s.val) :
    (show FVec Ideal S512x1024 .bf16 from iblk m c 1 t) (ix2 r k)
      = (show FVec Ideal S8x2048x1024 .bf16 from (m ((c : Thread nD τ).loc main_arg1))) (ix3 b s k) := by
  blk_simp [iblk, idx t]
  entry_read
  pointwise
  blk_ext [idx t]

/-- The retention's rows a point shows. -/
theorem block2 (c : Dev nD) (t : Fin cfg0.N) (r : Fin 512) (k : Fin 1024) (b : Fin 8) (s : Fin 2048)
    (h : t.val * 512 + r.val = b.val * 2048 + s.val) :
    (show FVec Ideal S512x1024 .bf16 from iblk m c 2 t) (ix2 r k)
      = (show FVec Ideal S8x2048x1024 .bf16 from (m ((c : Thread nD τ).loc main_arg2))) (ix3 b s k) := by
  blk_simp [iblk, idx t]
  entry_read
  pointwise
  blk_ext [idx t]

/-- The weights of the attention's part. -/
theorem block3 (c : Dev nD) (t : Fin cfg0.N) (k : Fin 1024) (d : Fin 2048) :
    (show FVec Ideal S1x1024x2048 .bf16 from iblk m c 3 t) (ix3 0 k d)
      = (show FVec Ideal S4x2048x2048 .f32 from (m ((c : Thread nD τ).loc main_arg3))) (ix3 0 ⟨k.val, by omega⟩ d) := by
  blk_simp [iblk, idx t]
  entry_read
  pointwise
  blk_ext [idx t]

/-- The weights of the retention's part. -/
theorem block4 (c : Dev nD) (t : Fin cfg0.N) (k : Fin 1024) (d : Fin 2048) :
    (show FVec Ideal S1x1024x2048 .bf16 from iblk m c 4 t) (ix3 0 k d)
      = (show FVec Ideal S4x2048x2048 .f32 from (m ((c : Thread nD τ).loc main_arg3))) (ix3 0 ⟨1024 + k.val, by omega⟩ d) := by
  blk_simp [iblk, idx t]
  entry_read
  pointwise
  blk_ext [idx t]

/-- The gain a point shows. -/
theorem block5 (c : Dev nD) (t : Fin cfg0.N) (k : Fin 2048) :
    (show FVec Ideal S1x2048 .f32 from iblk m c 5 t) (ix2 0 k)
      = (show FVec Ideal S4x2048 .f32 from (m ((c : Thread nD τ).loc main_arg4))) (ix2 0 k) := by
  blk_simp [iblk, idx t]
  entry_read
  pointwise
  blk_ext [idx t]

/-- The sum over a point's blocks is the reference's. -/
theorem sum_block (c : Dev nD) (t : Fin cfg0.N) (r : Fin 512) (d : Fin 2048) (b : Fin 8) (s : Fin 2048)
    (h : t.val * 512 + r.val = b.val * 2048 + s.val) :
    sumV (iblk m c 0 t) (iblk m c 1 t) (iblk m c 2 t) (iblk m c 3 t) (iblk m c 4 t) r d
      = RES (m ((c : Thread nD τ).loc main_arg0)) (m ((c : Thread nD τ).loc main_arg1)) (m ((c : Thread nD τ).loc main_arg2)) (m ((c : Thread nD τ).loc main_arg3)) (ix3 b s d) := by
  rw [res_at]
  unfold sumV
  refine congrArg₂ _ (congrArg₂ _ (block0 m c t r d b s h) (Finset.sum_congr rfl fun k _ => ?_)) (Finset.sum_congr rfl fun k _ => ?_)
  · exact congrArg₂ _ (block1 m c t r k b s h) (block3 m c t k d)
  · exact congrArg₂ _ (block2 m c t r k b s h) (block4 m c t k d)

/-- The first result's array is the reference's. -/
theorem final_sum (c : Dev nD) : (dats m 0 c).arrAt 6 (cfgs 0).N = FLAT (RES (m ((c : Thread nD τ).loc main_arg0)) (m ((c : Thread nD τ).loc main_arg1)) (m ((c : Thread nD τ).loc main_arg2)) (m ((c : Thread nD τ).loc main_arg3))) := by
  refine (dats m 0 c).arrAt_eq_of_covers 6 _ (by decide +kernel) fun t _ y => ?_
  blk_simp
  rw [after0_6]
  have hN : t.val < 32 := lt_of_lt_of_eq t.isLt (show cfg0.N = 32 from N_0)
  idx_vars y
  obtain ⟨r, hr⟩ : ∃ r : Fin 16384, r.val = t.val * 512 + y0.val := ⟨⟨t.val * 512 + y0.val, by omega⟩, rfl⟩
  obtain ⟨b, hb⟩ : ∃ b : Fin 8, b.val = r.val / 2048 := ⟨⟨r.val / 2048, by omega⟩, rfl⟩
  obtain ⟨s, hs⟩ : ∃ s : Fin 2048, s.val = r.val % 2048 := ⟨⟨r.val % 2048, by omega⟩, rfl⟩
  have e : ((View.whole main_v7_0).slice (win0_6.rect t)).emb (ix2 y0 y1) = ix2 r y1 := by
    blk_ext [idx t]
  refine Eq.trans ?_ (congrArg _ e).symm
  refine Eq.trans ?_ (flat_at _ r y1 b s (by omega)).symm
  unfold outsAt0
  dsimp only
  refine (sum_A (y := ix2 y0 y1) ..).trans ?_
  exact sum_block m c t y0 y1 b s (by omega)

/-- The second result's array is the reference's. -/
theorem final_norm (c : Dev nD) : (dats m 0 c).arrAt 7 (cfgs 0).N = FLATB (NRM (RES (m ((c : Thread nD τ).loc main_arg0)) (m ((c : Thread nD τ).loc main_arg1)) (m ((c : Thread nD τ).loc main_arg2)) (m ((c : Thread nD τ).loc main_arg3))) (m ((c : Thread nD τ).loc main_arg4))) := by
  refine (dats m 0 c).arrAt_eq_of_covers 7 _ (by decide +kernel) fun t _ y => ?_
  blk_simp
  rw [after0_7]
  have hN : t.val < 32 := lt_of_lt_of_eq t.isLt (show cfg0.N = 32 from N_0)
  idx_vars y
  obtain ⟨r, hr⟩ : ∃ r : Fin 16384, r.val = t.val * 512 + y0.val := ⟨⟨t.val * 512 + y0.val, by omega⟩, rfl⟩
  obtain ⟨b, hb⟩ : ∃ b : Fin 8, b.val = r.val / 2048 := ⟨⟨r.val / 2048, by omega⟩, rfl⟩
  obtain ⟨s, hs⟩ : ∃ s : Fin 2048, s.val = r.val % 2048 := ⟨⟨r.val % 2048, by omega⟩, rfl⟩
  have e : ((View.whole main_v7_1).slice (win0_7.rect t)).emb (ix2 y0 y1) = ix2 r y1 := by
    blk_ext [idx t]
  refine Eq.trans ?_ (congrArg _ e).symm
  refine Eq.trans ?_ (flatb_at _ r y1 b s (by omega)).symm
  refine Eq.trans ?_ (nrm_at _ _ b s y1).symm
  unfold outsAt0
  dsimp only
  refine (norm_A (y := ix2 y0 y1) ..).trans ?_
  exact congrArg₂ (fun p q => rowNorm p q y1) (funext fun k => sum_block m c t y0 k b s (by omega)) (funext fun k => block5 m c t k)

end Cert.OutKernelIdeal.Outproj

namespace Cert.Proof

open Idealize.ShloMosaic Idealize.SL.Sem

/-- The output projection's reference runs and ends with its arguments unchanged and every counter at zero: it has no counter. -/
theorem frame_out_reference : Cert.quiescent_OutReferenceIdeal := fun m ρ _ =>
  (θ_run Cert.OutReferenceIdeal.defs _ _).mono (fun r h => ⟨fun c => (h c).2.2, sem_eq_zero_of_no_sems (by decide) r.2⟩)
    (Cert.OutReferenceIdeal.Outproj.res_run m ρ)

/-- The output projection and its reference end with equal results, as extended reals. -/
theorem algebraic_out : Cert.algebraic_OutKernelIdeal_OutReferenceIdeal := by
  pair_intro
  · run_from Cert.OutKernelIdeal.Gen.run_main m g
  · run_from Cert.OutReferenceIdeal.Outproj.res_run m' g'
    · exact (Cert.OutKernelIdeal.Outproj.final_sum m c).symm
    · exact (Cert.OutKernelIdeal.Outproj.final_norm m c).symm

end Cert.Proof
-- ==== Proof.lean ====
/-
  The claims: the mixers' frames and the attention's value, and the frames and values of the two projections.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.InKernel
public import proofs.«01_k».proof.Proof.Gen.InKernelIdeal
public import proofs.«01_k».proof.Proof.Gen.InReferenceIdeal
public import proofs.«01_k».proof.Proof.Gen.InKernel.Frame
public import proofs.«01_k».proof.Proof.Gen.InKernelIdeal.Frame
public import proofs.«01_k».proof.Proof.Gen.InKernelIdeal.Value
public import proofs.«01_k».proof.Proof.Gen.InReferenceIdeal.Run
public import proofs.«01_k».proof.Proof.Gen.OutKernel
public import proofs.«01_k».proof.Proof.Gen.OutKernelIdeal
public import proofs.«01_k».proof.Proof.Gen.OutReferenceIdeal
public import proofs.«01_k».proof.Proof.Gen.OutKernel.Frame
public import proofs.«01_k».proof.Proof.Gen.OutKernelIdeal.Frame
public import proofs.«01_k».proof.Proof.Gen.OutKernelIdeal.Value
public import proofs.«01_k».proof.Proof.Gen.OutReferenceIdeal.Run
public import proofs.«01_k».proof.Proof.Gen.ReferenceIdeal
public import proofs.«01_k».proof.Proof.Gen.ReferenceIdeal.Run
public import proofs.«01_k».proof.Proof.Mixers.Frame
public import proofs.«01_k».proof.Proof.Attn.Claim
public import proofs.«01_k».proof.Proof.Inproj.Claim
public import proofs.«01_k».proof.Proof.Outproj.Claim
public import Idealize.ShloMosaic.Adequacy
public import Idealize.ShloMosaic.Init

@[expose] public section

noncomputable section

namespace Cert.Proof

open Idealize.ShloMosaic Idealize.SL.Sem Cert.Kernel

/-- The idealized mixers run and end with their arguments unchanged and every counter at zero. -/
theorem frame_ideal : Cert.quiescent_KernelIdeal := fun m ρ _ => Cert.Mixers.frame_all (F := Ideal) m ρ

set_option maxHeartbeats 8000000 in
/-- The two programs' body tables are the same text. -/
theorem defs₀_same (F : FTy → Type) [FloatOps F] :
    @Cert.Kernel.defs₀ F _ Cert.Kernel.Gen.facts = @Cert.KernelIdeal.defs₀ F _ Cert.KernelIdeal.Gen.facts := by
  apply congrArg (Defs.onTc (nD := Cert.Kernel.nD) (τ := Cert.Kernel.τ) (sig := Cert.Kernel.sig) (Val := Elt F) (Λ := Cert.Kernel.Λ₀))
  funext l a
  match l, a with
  | 0, (t, s) => rfl
  | ⟨_ + 1, h⟩, _ => exact absurd h (Nat.not_lt.2 (Nat.le_add_left _ _))

set_option maxHeartbeats 8000000 in
/-- So are their tables with the pipeline's own rows. -/
theorem defs_same (F : FTy → Type) [FloatOps F] :
    @Cert.Kernel.defs F _ Cert.Kernel.Gen.facts = @Cert.KernelIdeal.defs F _ Cert.KernelIdeal.Gen.facts :=
  congrArg (Pipeline.defs (Cert.Kernel.pcfgs (F := F))) (defs₀_same F)

set_option maxHeartbeats 8000000 in
/-- The mixers as printed run and end with their arguments unchanged and every counter at zero: the same run, at the machine's
    floats. -/
theorem frame_kernel : Cert.quiescent_Kernel := fun m ρ _ =>
  Eq.mpr (congrArg (fun D => θ_run D (onTc (τ := Cert.Kernel.τ) (Cert.Kernel.main (F := Bits))) ⟨m, fun _ => 0, ρ⟩ _) (defs_same Bits))
    ((θ_run Cert.KernelIdeal.defs _ _).mono (fun _ h => h) (Cert.Mixers.frame_all (F := Bits) m ρ))

/-- The input projection's reference runs and ends with its arguments unchanged and every counter at zero: it has no counter. -/
theorem frame_in_reference : Cert.quiescent_InReferenceIdeal := fun m ρ _ =>
  (θ_run Cert.InReferenceIdeal.defs _ _).mono (fun r h => ⟨fun c => (h c).2, sem_eq_zero_of_no_sems (by decide) r.2⟩)
    (Cert.InReferenceIdeal.Value.run m ρ)

/-- Every claim of the certificate. -/
theorem claim : Cert.Claim :=
  ⟨Cert.Kernel.Gen.facts, Cert.KernelIdeal.Gen.facts, Cert.ReferenceIdeal.Gen.facts, Cert.InKernel.Gen.facts, Cert.InKernelIdeal.Gen.facts,
    Cert.InReferenceIdeal.Gen.facts, Cert.OutKernel.Gen.facts, Cert.OutKernelIdeal.Gen.facts, Cert.OutReferenceIdeal.Gen.facts, by
  exact ⟨frame_kernel, frame_ideal, frame_reference, fun m ρ _ => Cert.InKernel.Gen.frame m ρ, fun m ρ _ => Cert.InKernelIdeal.Gen.frame m ρ,
    frame_in_reference, fun m ρ _ => Cert.OutKernel.Gen.frame m ρ, fun m ρ _ => Cert.OutKernelIdeal.Gen.frame m ρ,
    frame_out_reference, trivial, algebraic, trivial, algebraic_in, trivial, algebraic_out⟩⟩

end Cert.Proof

end
